-- ==== Defs.lean ====
def Pre_Kernel [hPre_pairs_in_rows : Cert.Pre_pairs_in_rows.Facts] (m : (ℓ : Loc Cert.Kernel.nD Cert.Kernel.τ Cert.Kernel.sig) → Buf (Elt Bits) ℓ) : Prop :=
  ∀ c : Dev Cert.Kernel.nD,
    (Cert.Pre_pairs_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pairs_in_rows : Cert.Pre_pairs_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pairs_in_rows [hPre_pairs_in_rows : Cert.Pre_pairs_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_pairs_in_rows : Cert.Pre_pairs_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pairs_in_rows : Cert.Pre_pairs_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pairs_in_rows [hReferenceIdeal : Cert.ReferenceIdeal.Facts] [hPre_pairs_in_rows : Cert.Pre_pairs_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pairs_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "two_c" .f32 0x41EB3F8E#32 ((16 * (Real.log (13176795 / 2097152)) : ℝ) : EReal)
  ∧ IdealRules.named_const.Statement Cert.KernelIdeal.κ "scale" .f32 0x358637C6#32 ((1 / 999999 : ℝ) : EReal)

def algebraic_KernelIdeal_ReferenceIdeal [hKernelIdeal : Cert.KernelIdeal.Facts] [hReferenceIdeal : Cert.ReferenceIdeal.Facts] [hPre_pairs_in_rows : Cert.Pre_pairs_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pairs_in_rows : Cert.Pre_pairs_in_rows.Facts),
    quiescent_Kernel (hKernel := hKernel) (hPre_pairs_in_rows := hPre_pairs_in_rows)
    ∧ quiescent_KernelIdeal (hKernelIdeal := hKernelIdeal) (hPre_pairs_in_rows := hPre_pairs_in_rows)
    ∧ quiescent_ReferenceIdeal (hReferenceIdeal := hReferenceIdeal)
    ∧ quiescent_ReferenceIdeal_pre_pairs_in_rows (hReferenceIdeal := hReferenceIdeal) (hPre_pairs_in_rows := hPre_pairs_in_rows)
    ∧ preserves_Kernel_KernelIdeal
    ∧ algebraic_KernelIdeal_ReferenceIdeal (hKernelIdeal := hKernelIdeal) (hReferenceIdeal := hReferenceIdeal) (hPre_pairs_in_rows := hPre_pairs_in_rows)
-- ==== Pre_pairs_in_rows.lean ====
abbrev S16384x2 : Shape := ⟨2, ![16384, 2]⟩
abbrev S16384 : Shape := ⟨1, ![16384]⟩
abbrev S1000000x16 : Shape := ⟨2, ![1000000, 16]⟩
abbrev S_ : Shape := ⟨0, ![]⟩

class Facts : Prop where
  bcast_S_S16384x2 : S_.BroadcastsInDim S16384x2 (![] : Fin 0 → Fin S16384x2.rank)

variable [Facts]

def fn {F : FTy → Type} [FloatOps F] (main_arg0 : IVec S16384x2 32) (main_arg1 : IVec S16384 32) (main_arg2 : FVec F S1000000x16 .f32) : IVec S16384x2 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 1000000#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  main_v4
-- ==== Kernel.lean ====
abbrev S16384x2 : Shape := ⟨2, ![16384, 2]⟩
abbrev S16384 : Shape := ⟨1, ![16384]⟩
abbrev S1000000x16 : Shape := ⟨2, ![1000000, 16]⟩
abbrev S32x8x128 : Shape := ⟨3, ![32, 8, 128]⟩
abbrev S8x128 : Shape := ⟨2, ![8, 128]⟩
abbrev S1024x16 : Shape := ⟨2, ![1024, 16]⟩
abbrev S512 : Shape := ⟨1, ![512]⟩
abbrev S_ : Shape := ⟨0, ![]⟩
abbrev S1x8x128 : Shape := ⟨3, ![1, 8, 128]⟩
abbrev S128x16 : Shape := ⟨2, ![128, 16]⟩
abbrev S1x128 : Shape := ⟨2, ![1, 128]⟩
abbrev S128 : Shape := ⟨1, ![128]⟩
abbrev S16 : Shape := ⟨1, ![16]⟩
abbrev S128x128 : Shape := ⟨2, ![128, 128]⟩

abbrev nBuf : Table → Nat
  | .hbm => 11
  | .local .tc .vmem => 4
  | .local .scVector .vmem => 4
  | _ => 0

abbrev bufTy : (tb : Table) → Fin (nBuf tb) → BufTy
  | .hbm, ⟨0, _⟩ => ⟨S16384x2, .i32⟩
  | .hbm, ⟨1, _⟩ => ⟨S16384, .i32⟩
  | .hbm, ⟨2, _⟩ => ⟨S1000000x16, .f32⟩
  | .hbm, ⟨3, _⟩ => ⟨S32x8x128, .i32⟩
  | .hbm, ⟨4, _⟩ => ⟨S16384, .f32⟩
  | .hbm, ⟨5, _⟩ => ⟨S16384, .f32⟩
  | .hbm, ⟨6, _⟩ => ⟨S128x128, .f32⟩
  | .hbm, ⟨7, _⟩ => ⟨S128x128, .f32⟩
  | .hbm, ⟨8, _⟩ => ⟨S128x128, .i32⟩
  | .hbm, ⟨9, _⟩ => ⟨S128x128, .f32⟩
  | .hbm, ⟨10, _⟩ => ⟨S16384, .f32⟩
  | .local .tc .vmem, ⟨0, _⟩ => ⟨S128x128, .f32⟩
  | .local .tc .vmem, ⟨1, _⟩ => ⟨S128x128, .f32⟩
  | .local .tc .vmem, ⟨2, _⟩ => ⟨S128x128, .i32⟩
  | .local .tc .vmem, ⟨3, _⟩ => ⟨S128x128, .f32⟩
  | .local .scVector .vmem, ⟨0, _⟩ => ⟨S8x128, .i32⟩
  | .local .scVector .vmem, ⟨1, _⟩ => ⟨S1024x16, .f32⟩
  | .local .scVector .vmem, ⟨2, _⟩ => ⟨S512, .f32⟩
  | .local .scVector .vmem, ⟨3, _⟩ => ⟨S512, .f32⟩
  | _, _ => ⟨S16384x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 3, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_87_r0 : BitVec 32 := 0#32
  let c0_i32_88_r0 : BitVec 32 := 0#32
  ![v1.toNat, 0, 0]
@[reducible] def k0_t1_loop : Scf.Loop 32 :=
  let c0_i32_84 : BitVec 32 := 0#32
  let c32_i32 : BitVec 32 := 32#32
  let v67 : BitVec 32 := Scalar.addi c0_i32_84 c32_i32
  let c1_i32_85 : BitVec 32 := 1#32
  ⟨c0_i32_84, v67, c1_i32_85⟩
def k0_mult1 (k0_t1 : Fin k0_t1_loop.trips) : BitVec 32 :=
  let c0_i32_84 : BitVec 32 := 0#32
  let c1_i32_85 : BitVec 32 := 1#32
  let arg11 : BitVec 32 := Scf.iv c0_i32_84 c1_i32_85 k0_t1
  let c16_i32 : BitVec 32 := 16#32
  let v69 : BitVec 32 := Scalar.muli arg11 c16_i32
  v69

def k0_chk1 (v76 : IVec S16 32) (v78 : IVec S16 32) (v81 : IVec S16 32) : Prop :=
  (∀ a x, ((![v76, v81] : Fin 2 → IVec S16 32) a x).toNat < S1024x16.size a) ∧
  (∀ a x, ((![v78, v81] : Fin 2 → IVec S16 32) a x).toNat < S1024x16.size a)
theorem k0_idx1_inb : ∀ (v76 : IVec S16 32) (v78 : IVec S16 32) (v81 : IVec S16 32) (k0_hw1 : k0_chk1 v76 v78 v81), ∀ a x, ((![v76, v81] : Fin 2 → IVec S16 32) a x).toNat < S1024x16.size a := fun v76 v78 v81 k0_hw1 => k0_hw1.1
theorem k0_idx2_inb : ∀ (v76 : IVec S16 32) (v78 : IVec S16 32) (v81 : IVec S16 32) (k0_hw1 : k0_chk1 v76 v78 v81), ∀ a x, ((![v78, v81] : Fin 2 → IVec S16 32) a x).toNat < S1024x16.size a := fun v76 v78 v81 k0_hw1 => k0_hw1.2

def k0_chk2 (v76 : IVec S16 32) (v78 : IVec S16 32) (v91 : IVec S16 32) : Prop :=
  (∀ a x, ((![v76, v91] : Fin 2 → IVec S16 32) a x).toNat < S1024x16.size a) ∧
  (∀ a x, ((![v78, v91] : Fin 2 → IVec S16 32) a x).toNat < S1024x16.size a)
theorem k0_idx3_inb : ∀ (v76 : IVec S16 32) (v78 : IVec S16 32) (v91 : IVec S16 32) (k0_hw2 : k0_chk2 v76 v78 v91), ∀ a x, ((![v76, v91] : Fin 2 → IVec S16 32) a x).toNat < S1024x16.size a := fun v76 v78 v91 k0_hw2 => k0_hw2.1
theorem k0_idx4_inb : ∀ (v76 : IVec S16 32) (v78 : IVec S16 32) (v91 : IVec S16 32) (k0_hw2 : k0_chk2 v76 v78 v91), ∀ a x, ((![v78, v91] : Fin 2 → IVec S16 32) a x).toNat < S1024x16.size a := fun v76 v78 v91 k0_hw2 => k0_hw2.2

def k0_chk3 (v76 : IVec S16 32) (v78 : IVec S16 32) (v101 : IVec S16 32) : Prop :=
  (∀ a x, ((![v76, v101] : Fin 2 → IVec S16 32) a x).toNat < S1024x16.size a) ∧
  (∀ a x, ((![v78, v101] : Fin 2 → IVec S16 32) a x).toNat < S1024x16.size a)
theorem k0_idx5_inb : ∀ (v76 : IVec S16 32) (v78 : IVec S16 32) (v101 : IVec S16 32) (k0_hw3 : k0_chk3 v76 v78 v101), ∀ a x, ((![v76, v101] : Fin 2 → IVec S16 32) a x).toNat < S1024x16.size a := fun v76 v78 v101 k0_hw3 => k0_hw3.1
theorem k0_idx6_inb : ∀ (v76 : IVec S16 32) (v78 : IVec S16 32) (v101 : IVec S16 32) (k0_hw3 : k0_chk3 v76 v78 v101), ∀ a x, ((![v78, v101] : Fin 2 → IVec S16 32) a x).toNat < S1024x16.size a := fun v76 v78 v101 k0_hw3 => k0_hw3.2

def k0_chk4 (v76 : IVec S16 32) (v78 : IVec S16 32) (v111 : IVec S16 32) : Prop :=
  (∀ a x, ((![v76, v111] : Fin 2 → IVec S16 32) a x).toNat < S1024x16.size a) ∧
  (∀ a x, ((![v78, v111] : Fin 2 → IVec S16 32) a x).toNat < S1024x16.size a)
theorem k0_idx7_inb : ∀ (v76 : IVec S16 32) (v78 : IVec S16 32) (v111 : IVec S16 32) (k0_hw4 : k0_chk4 v76 v78 v111), ∀ a x, ((![v76, v111] : Fin 2 → IVec S16 32) a x).toNat < S1024x16.size a := fun v76 v78 v111 k0_hw4 => k0_hw4.1
theorem k0_idx8_inb : ∀ (v76 : IVec S16 32) (v78 : IVec S16 32) (v111 : IVec S16 32) (k0_hw4 : k0_chk4 v76 v78 v111), ∀ a x, ((![v78, v111] : Fin 2 → IVec S16 32) a x).toNat < S1024x16.size a := fun v76 v78 v111 k0_hw4 => k0_hw4.2

def k0_chk5 (v76 : IVec S16 32) (v78 : IVec S16 32) (v121 : IVec S16 32) : Prop :=
  (∀ a x, ((![v76, v121] : Fin 2 → IVec S16 32) a x).toNat < S1024x16.size a) ∧
  (∀ a x, ((![v78, v121] : Fin 2 → IVec S16 32) a x).toNat < S1024x16.size a)
theorem k0_idx9_inb : ∀ (v76 : IVec S16 32) (v78 : IVec S16 32) (v121 : IVec S16 32) (k0_hw5 : k0_chk5 v76 v78 v121), ∀ a x, ((![v76, v121] : Fin 2 → IVec S16 32) a x).toNat < S1024x16.size a := fun v76 v78 v121 k0_hw5 => k0_hw5.1
theorem k0_idx10_inb : ∀ (v76 : IVec S16 32) (v78 : IVec S16 32) (v121 : IVec S16 32) (k0_hw5 : k0_chk5 v76 v78 v121), ∀ a x, ((![v78, v121] : Fin 2 → IVec S16 32) a x).toNat < S1024x16.size a := fun v76 v78 v121 k0_hw5 => k0_hw5.2

def k0_chk6 (v76 : IVec S16 32) (v78 : IVec S16 32) (v131 : IVec S16 32) : Prop :=
  (∀ a x, ((![v76, v131] : Fin 2 → IVec S16 32) a x).toNat < S1024x16.size a) ∧
  (∀ a x, ((![v78, v131] : Fin 2 → IVec S16 32) a x).toNat < S1024x16.size a)
theorem k0_idx11_inb : ∀ (v76 : IVec S16 32) (v78 : IVec S16 32) (v131 : IVec S16 32) (k0_hw6 : k0_chk6 v76 v78 v131), ∀ a x, ((![v76, v131] : Fin 2 → IVec S16 32) a x).toNat < S1024x16.size a := fun v76 v78 v131 k0_hw6 => k0_hw6.1
theorem k0_idx12_inb : ∀ (v76 : IVec S16 32) (v78 : IVec S16 32) (v131 : IVec S16 32) (k0_hw6 : k0_chk6 v76 v78 v131), ∀ a x, ((![v78, v131] : Fin 2 → IVec S16 32) a x).toNat < S1024x16.size a := fun v76 v78 v131 k0_hw6 => k0_hw6.2

def k0_chk7 (v76 : IVec S16 32) (v78 : IVec S16 32) (v141 : IVec S16 32) : Prop :=
  (∀ a x, ((![v76, v141] : Fin 2 → IVec S16 32) a x).toNat < S1024x16.size a) ∧
  (∀ a x, ((![v78, v141] : Fin 2 → IVec S16 32) a x).toNat < S1024x16.size a)
theorem k0_idx13_inb : ∀ (v76 : IVec S16 32) (v78 : IVec S16 32) (v141 : IVec S16 32) (k0_hw7 : k0_chk7 v76 v78 v141), ∀ a x, ((![v76, v141] : Fin 2 → IVec S16 32) a x).toNat < S1024x16.size a := fun v76 v78 v141 k0_hw7 => k0_hw7.1
theorem k0_idx14_inb : ∀ (v76 : IVec S16 32) (v78 : IVec S16 32) (v141 : IVec S16 32) (k0_hw7 : k0_chk7 v76 v78 v141), ∀ a x, ((![v78, v141] : Fin 2 → IVec S16 32) a x).toNat < S1024x16.size a := fun v76 v78 v141 k0_hw7 => k0_hw7.2

def k0_chk8 (v76 : IVec S16 32) (v78 : IVec S16 32) (v151 : IVec S16 32) : Prop :=
  (∀ a x, ((![v76, v151] : Fin 2 → IVec S16 32) a x).toNat < S1024x16.size a) ∧
  (∀ a x, ((![v78, v151] : Fin 2 → IVec S16 32) a x).toNat < S1024x16.size a)
theorem k0_idx15_inb : ∀ (v76 : IVec S16 32) (v78 : IVec S16 32) (v151 : IVec S16 32) (k0_hw8 : k0_chk8 v76 v78 v151), ∀ a x, ((![v76, v151] : Fin 2 → IVec S16 32) a x).toNat < S1024x16.size a := fun v76 v78 v151 k0_hw8 => k0_hw8.1
theorem k0_idx16_inb : ∀ (v76 : IVec S16 32) (v78 : IVec S16 32) (v151 : IVec S16 32) (k0_hw8 : k0_chk8 v76 v78 v151), ∀ a x, ((![v78, v151] : Fin 2 → IVec S16 32) a x).toNat < S1024x16.size a := fun v76 v78 v151 k0_hw8 => k0_hw8.2

def k0_chk9 (v76 : IVec S16 32) (v78 : IVec S16 32) (v161 : IVec S16 32) : Prop :=
  (∀ a x, ((![v76, v161] : Fin 2 → IVec S16 32) a x).toNat < S1024x16.size a) ∧
  (∀ a x, ((![v78, v161] : Fin 2 → IVec S16 32) a x).toNat < S1024x16.size a)
theorem k0_idx17_inb : ∀ (v76 : IVec S16 32) (v78 : IVec S16 32) (v161 : IVec S16 32) (k0_hw9 : k0_chk9 v76 v78 v161), ∀ a x, ((![v76, v161] : Fin 2 → IVec S16 32) a x).toNat < S1024x16.size a := fun v76 v78 v161 k0_hw9 => k0_hw9.1
theorem k0_idx18_inb : ∀ (v76 : IVec S16 32) (v78 : IVec S16 32) (v161 : IVec S16 32) (k0_hw9 : k0_chk9 v76 v78 v161), ∀ a x, ((![v78, v161] : Fin 2 → IVec S16 32) a x).toNat < S1024x16.size a := fun v76 v78 v161 k0_hw9 => k0_hw9.2

def k0_chk10 (v76 : IVec S16 32) (v78 : IVec S16 32) (v171 : IVec S16 32) : Prop :=
  (∀ a x, ((![v76, v171] : Fin 2 → IVec S16 32) a x).toNat < S1024x16.size a) ∧
  (∀ a x, ((![v78, v171] : Fin 2 → IVec S16 32) a x).toNat < S1024x16.size a)
theorem k0_idx19_inb : ∀ (v76 : IVec S16 32) (v78 : IVec S16 32) (v171 : IVec S16 32) (k0_hw10 : k0_chk10 v76 v78 v171), ∀ a x, ((![v76, v171] : Fin 2 → IVec S16 32) a x).toNat < S1024x16.size a := fun v76 v78 v171 k0_hw10 => k0_hw10.1
theorem k0_idx20_inb : ∀ (v76 : IVec S16 32) (v78 : IVec S16 32) (v171 : IVec S16 32) (k0_hw10 : k0_chk10 v76 v78 v171), ∀ a x, ((![v78, v171] : Fin 2 → IVec S16 32) a x).toNat < S1024x16.size a := fun v76 v78 v171 k0_hw10 => k0_hw10.2

def k0_chk11 (v76 : IVec S16 32) (v78 : IVec S16 32) (v181 : IVec S16 32) : Prop :=
  (∀ a x, ((![v76, v181] : Fin 2 → IVec S16 32) a x).toNat < S1024x16.size a) ∧
  (∀ a x, ((![v78, v181] : Fin 2 → IVec S16 32) a x).toNat < S1024x16.size a)
theorem k0_idx21_inb : ∀ (v76 : IVec S16 32) (v78 : IVec S16 32) (v181 : IVec S16 32) (k0_hw11 : k0_chk11 v76 v78 v181), ∀ a x, ((![v76, v181] : Fin 2 → IVec S16 32) a x).toNat < S1024x16.size a := fun v76 v78 v181 k0_hw11 => k0_hw11.1
theorem k0_idx22_inb : ∀ (v76 : IVec S16 32) (v78 : IVec S16 32) (v181 : IVec S16 32) (k0_hw11 : k0_chk11 v76 v78 v181), ∀ a x, ((![v78, v181] : Fin 2 → IVec S16 32) a x).toNat < S1024x16.size a := fun v76 v78 v181 k0_hw11 => k0_hw11.2

def k0_chk12 (v76 : IVec S16 32) (v78 : IVec S16 32) (v191 : IVec S16 32) : Prop :=
  (∀ a x, ((![v76, v191] : Fin 2 → IVec S16 32) a x).toNat < S1024x16.size a) ∧
  (∀ a x, ((![v78, v191] : Fin 2 → IVec S16 32) a x).toNat < S1024x16.size a)
theorem k0_idx23_inb : ∀ (v76 : IVec S16 32) (v78 : IVec S16 32) (v191 : IVec S16 32) (k0_hw12 : k0_chk12 v76 v78 v191), ∀ a x, ((![v76, v191] : Fin 2 → IVec S16 32) a x).toNat < S1024x16.size a := fun v76 v78 v191 k0_hw12 => k0_hw12.1
theorem k0_idx24_inb : ∀ (v76 : IVec S16 32) (v78 : IVec S16 32) (v191 : IVec S16 32) (k0_hw12 : k0_chk12 v76 v78 v191), ∀ a x, ((![v78, v191] : Fin 2 → IVec S16 32) a x).toNat < S1024x16.size a := fun v76 v78 v191 k0_hw12 => k0_hw12.2

def k0_chk13 (v76 : IVec S16 32) (v78 : IVec S16 32) (v201 : IVec S16 32) : Prop :=
  (∀ a x, ((![v76, v201] : Fin 2 → IVec S16 32) a x).toNat < S1024x16.size a) ∧
  (∀ a x, ((![v78, v201] : Fin 2 → IVec S16 32) a x).toNat < S1024x16.size a)
theorem k0_idx25_inb : ∀ (v76 : IVec S16 32) (v78 : IVec S16 32) (v201 : IVec S16 32) (k0_hw13 : k0_chk13 v76 v78 v201), ∀ a x, ((![v76, v201] : Fin 2 → IVec S16 32) a x).toNat < S1024x16.size a := fun v76 v78 v201 k0_hw13 => k0_hw13.1
theorem k0_idx26_inb : ∀ (v76 : IVec S16 32) (v78 : IVec S16 32) (v201 : IVec S16 32) (k0_hw13 : k0_chk13 v76 v78 v201), ∀ a x, ((![v78, v201] : Fin 2 → IVec S16 32) a x).toNat < S1024x16.size a := fun v76 v78 v201 k0_hw13 => k0_hw13.2

def k0_chk14 (v76 : IVec S16 32) (v78 : IVec S16 32) (v211 : IVec S16 32) : Prop :=
  (∀ a x, ((![v76, v211] : Fin 2 → IVec S16 32) a x).toNat < S1024x16.size a) ∧
  (∀ a x, ((![v78, v211] : Fin 2 → IVec S16 32) a x).toNat < S1024x16.size a)
theorem k0_idx27_inb : ∀ (v76 : IVec S16 32) (v78 : IVec S16 32) (v211 : IVec S16 32) (k0_hw14 : k0_chk14 v76 v78 v211), ∀ a x, ((![v76, v211] : Fin 2 → IVec S16 32) a x).toNat < S1024x16.size a := fun v76 v78 v211 k0_hw14 => k0_hw14.1
theorem k0_idx28_inb : ∀ (v76 : IVec S16 32) (v78 : IVec S16 32) (v211 : IVec S16 32) (k0_hw14 : k0_chk14 v76 v78 v211), ∀ a x, ((![v78, v211] : Fin 2 → IVec S16 32) a x).toNat < S1024x16.size a := fun v76 v78 v211 k0_hw14 => k0_hw14.2

def k0_chk15 (v76 : IVec S16 32) (v78 : IVec S16 32) (v221 : IVec S16 32) : Prop :=
  (∀ a x, ((![v76, v221] : Fin 2 → IVec S16 32) a x).toNat < S1024x16.size a) ∧
  (∀ a x, ((![v78, v221] : Fin 2 → IVec S16 32) a x).toNat < S1024x16.size a)
theorem k0_idx29_inb : ∀ (v76 : IVec S16 32) (v78 : IVec S16 32) (v221 : IVec S16 32) (k0_hw15 : k0_chk15 v76 v78 v221), ∀ a x, ((![v76, v221] : Fin 2 → IVec S16 32) a x).toNat < S1024x16.size a := fun v76 v78 v221 k0_hw15 => k0_hw15.1
theorem k0_idx30_inb : ∀ (v76 : IVec S16 32) (v78 : IVec S16 32) (v221 : IVec S16 32) (k0_hw15 : k0_chk15 v76 v78 v221), ∀ a x, ((![v78, v221] : Fin 2 → IVec S16 32) a x).toNat < S1024x16.size a := fun v76 v78 v221 k0_hw15 => k0_hw15.2

def k0_chk16 (v76 : IVec S16 32) (v78 : IVec S16 32) (v231 : IVec S16 32) : Prop :=
  (∀ a x, ((![v76, v231] : Fin 2 → IVec S16 32) a x).toNat < S1024x16.size a) ∧
  (∀ a x, ((![v78, v231] : Fin 2 → IVec S16 32) a x).toNat < S1024x16.size a)
theorem k0_idx31_inb : ∀ (v76 : IVec S16 32) (v78 : IVec S16 32) (v231 : IVec S16 32) (k0_hw16 : k0_chk16 v76 v78 v231), ∀ a x, ((![v76, v231] : Fin 2 → IVec S16 32) a x).toNat < S1024x16.size a := fun v76 v78 v231 k0_hw16 => k0_hw16.1
theorem k0_idx32_inb : ∀ (v76 : IVec S16 32) (v78 : IVec S16 32) (v231 : IVec S16 32) (k0_hw16 : k0_chk16 v76 v78 v231), ∀ a x, ((![v78, v231] : Fin 2 → IVec S16 32) a x).toNat < S1024x16.size a := fun v76 v78 v231 k0_hw16 => k0_hw16.2
def k0_mult2 (k0_t1 : Fin k0_t1_loop.trips) : BitVec 32 :=
  let c0_i32_84 : BitVec 32 := 0#32
  let c1_i32_85 : BitVec 32 := 1#32
  let arg11 : BitVec 32 := Scf.iv c0_i32_84 c1_i32_85 k0_t1
  let c16_i32_99 : BitVec 32 := 16#32
  let v241 : BitVec 32 := Scalar.muli arg11 c16_i32_99
  v241
def k0_off2 (k0_t1 : Fin k0_t1_loop.trips) : Fin 1 → Nat :=
  let c0_i32_84 : BitVec 32 := 0#32
  let c1_i32_85 : BitVec 32 := 1#32
  let arg11 : BitVec 32 := Scf.iv c0_i32_84 c1_i32_85 k0_t1
  let c16_i32_99 : BitVec 32 := 16#32
  let v241 : BitVec 32 := Scalar.muli arg11 c16_i32_99
  let v242 : BitVec 32 := v241
  let v243 : Index := Scalar.indexCast v242
  ![v243.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "scale" => some ((1 / 999999 : ℝ) : EReal)
  | "two_c" => some ((16 * (Real.log (13176795 / 2097152)) : ℝ) : EReal)
  | _ => none
-- ==== ReferenceIdeal.lean ====
abbrev S16384x2 : Shape := ⟨2, ![16384, 2]⟩
abbrev S16384 : Shape := ⟨1, ![16384]⟩
abbrev S1000000x16 : Shape := ⟨2, ![1000000, 16]⟩
abbrev S16384x1 : Shape := ⟨2, ![16384, 1]⟩
abbrev S_ : Shape := ⟨0, ![]⟩
abbrev S1 : Shape := ⟨1, ![1]⟩
abbrev S1x1 : Shape := ⟨2, ![1, 1]⟩
abbrev S16384x16 : Shape := ⟨2, ![16384, 16]⟩

abbrev nBuf : Space → Nat
  | .hbm => 136
  | .vmem => 0
  | .smem => 0
  | _ => 0

abbrev hbmTy0_0 (i : Nat) : BufTy := match i % 128 with
  | 0 => ⟨S16384x2, .i32⟩
  | 1 => ⟨S16384, .i32⟩
  | 2 => ⟨S1000000x16, .f32⟩
  | 3 => ⟨S16384x1, .i32⟩
  | 4 => ⟨S16384, .i32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S1, .i32⟩
  | 14 => ⟨S_, .i32⟩
  | 15 => ⟨S16384x1, .i32⟩
  | 16 => ⟨S16384x1, .i1⟩
  | 17 => ⟨S1x1, .i32⟩
  | 18 => ⟨S16384x1, .i32⟩
  | 19 => ⟨S16384x1, .i1⟩
  | 20 => ⟨S16384x1, .i1⟩
  | 21 => ⟨S_, .i1⟩
  | 22 => ⟨S16384, .i1⟩
  | 23 => ⟨S16384x16, .f32⟩
  | 24 => ⟨S16384x16, .i1⟩
  | 25 => ⟨S_, .f32⟩
  | 26 => ⟨S16384x16, .f32⟩
  | 27 => ⟨S16384x16, .f32⟩
  | 28 => ⟨S16384x1, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S1, .i32⟩
  | 39 => ⟨S_, .i32⟩
  | 40 => ⟨S16384x1, .i32⟩
  | 41 => ⟨S16384x1, .i1⟩
  | 42 => ⟨S1x1, .i32⟩
  | 43 => ⟨S16384x1, .i32⟩
  | 44 => ⟨S16384x1, .i1⟩
  | 45 => ⟨S16384x1, .i1⟩
  | 46 => ⟨S_, .i1⟩
  | 47 => ⟨S16384, .i1⟩
  | 48 => ⟨S16384x16, .f32⟩
  | 49 => ⟨S16384x16, .i1⟩
  | 50 => ⟨S_, .f32⟩
  | 51 => ⟨S16384x16, .f32⟩
  | 52 => ⟨S16384x16, .f32⟩
  | 53 => ⟨S16384x16, .f32⟩
  | 54 => ⟨S16384x16, .f32⟩
  | 55 => ⟨S_, .f32⟩
  | 56 => ⟨S16384, .f32⟩
  | 57 => ⟨S16384, .f32⟩
  | 58 => ⟨S16384, .f32⟩
  | 59 => ⟨S_, .f32⟩
  | 60 => ⟨S16384, .f32⟩
  | 61 => ⟨S_, .f32⟩
  | 62 => ⟨S16384, .f32⟩
  | 63 => ⟨S16384, .f32⟩
  | 64 => ⟨S_, .f32⟩
  | 65 => ⟨S16384, .f32⟩
  | 66 => ⟨S16384, .f32⟩
  | 67 => ⟨S16384, .f32⟩
  | 68 => ⟨S16384, .f32⟩
  | 69 => ⟨S16384, .i1⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S_, .f32⟩
  | 78 => ⟨S16384, .f32⟩
  | 79 => ⟨S16384, .f32⟩
  | 80 => ⟨S_, .f32⟩
  | 81 => ⟨S16384, .f32⟩
  | 82 => ⟨S16384, .f32⟩
  | 83 => ⟨S16384, .f32⟩
  | 84 => ⟨S16384, .f32⟩
  | 85 => ⟨S16384, .i1⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S_, .f32⟩
  | 95 => ⟨S16384, .f32⟩
  | 96 => ⟨S16384, .f32⟩
  | 97 => ⟨S16384, .f32⟩
  | 98 => ⟨S16384, .f32⟩
  | 99 => ⟨S_, .f32⟩
  | 100 => ⟨S_, .f32⟩
  | 101 => ⟨S_, .f32⟩
  | 102 => ⟨S_, .f32⟩
  | 103 => ⟨S16384x16, .f32⟩
  | 104 => ⟨S_, .f32⟩
  | 105 => ⟨S16384, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S_, .f32⟩
  | 113 => ⟨S16384, .f32⟩
  | 114 => ⟨S16384, .f32⟩
  | 115 => ⟨S_, .f32⟩
  | 116 => ⟨S_, .f32⟩
  | 117 => ⟨S_, .f32⟩
  | 118 => ⟨S_, .f32⟩
  | 119 => ⟨S16384x16, .f32⟩
  | 120 => ⟨S_, .f32⟩
  | 121 => ⟨S16384, .f32⟩
  | 122 => ⟨S_, .f32⟩
  | 123 => ⟨S16384, .f32⟩
  | 124 => ⟨S16384, .f32⟩
  | 125 => ⟨S_, .f32⟩
  | 126 => ⟨S16384, .f32⟩
  | 127 => ⟨S16384, .f32⟩
  | _ => ⟨S16384x2, .i32⟩

abbrev hbmTy0_1 (i : Nat) : BufTy := match i % 128 with
  | 0 => ⟨S_, .f32⟩
  | 1 => ⟨S16384, .f32⟩
  | 2 => ⟨S16384, .f32⟩
  | 3 => ⟨S16384, .f32⟩
  | 4 => ⟨S_, .f32⟩
  | 5 => ⟨S16384, .f32⟩
  | 6 => ⟨S16384, .f32⟩
  | 7 => ⟨S16384, .f32⟩
  | _ => ⟨S16384x2, .i32⟩

abbrev hbmTy (i : Nat) : BufTy := match i / 128 with
  | 0 => hbmTy0_0 i
  | 1 => hbmTy0_1 i
  | _ => ⟨S16384x2, .i32⟩

abbrev bufTy : (tb : Table) → Fin (tcTables nBuf tb) → BufTy
  | .hbm, ⟨i, _⟩ => hbmTy i
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_0 : Ref sig .tc := ⟨.hbm, 59, rfl⟩
abbrev main_v11 : Ref sig .tc := ⟨.hbm, 60, rfl⟩
abbrev main_cst_1 : Ref sig .tc := ⟨.hbm, 61, rfl⟩
abbrev main_v12 : Ref sig .tc := ⟨.hbm, 62, rfl⟩
abbrev main_v13 : Ref sig .tc := ⟨.hbm, 63, rfl⟩
abbrev main_cst_2 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_3 : Ref sig .tc := ⟨.hbm, 77, rfl⟩
abbrev main_v26 : Ref sig .tc := ⟨.hbm, 78, rfl⟩
abbrev main_v27 : Ref sig .tc := ⟨.hbm, 79, rfl⟩
abbrev main_cst_4 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_5 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_6 : Ref sig .tc := ⟨.hbm, 99, rfl⟩
abbrev main_v45 : Ref sig .tc := ⟨.hbm, 100, rfl⟩
abbrev main_cst_7 : Ref sig .tc := ⟨.hbm, 101, rfl⟩
abbrev main_v46 : Ref sig .tc := ⟨.hbm, 102, rfl⟩
abbrev main_v47 : Ref sig .tc := ⟨.hbm, 103, rfl⟩
abbrev main_cst_8 : Ref sig .tc := ⟨.hbm, 104, rfl⟩
abbrev main_v48 : Ref sig .tc := ⟨.hbm, 105, rfl⟩
abbrev main_cst_9 : Ref sig .tc := ⟨.hbm, 106, rfl⟩
abbrev main_v49 : Ref sig .tc := ⟨.hbm, 107, rfl⟩
abbrev main_v50 : Ref sig .tc := ⟨.hbm, 108, rfl⟩
abbrev main_cst_10 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_11 : Ref sig .tc := ⟨.hbm, 115, rfl⟩
abbrev main_v56 : Ref sig .tc := ⟨.hbm, 116, rfl⟩
abbrev main_cst_12 : Ref sig .tc := ⟨.hbm, 117, rfl⟩
abbrev main_v57 : Ref sig .tc := ⟨.hbm, 118, rfl⟩
abbrev main_v58 : Ref sig .tc := ⟨.hbm, 119, rfl⟩
abbrev main_cst_13 : Ref sig .tc := ⟨.hbm, 120, rfl⟩
abbrev main_v59 : Ref sig .tc := ⟨.hbm, 121, rfl⟩
abbrev main_cst_14 : Ref sig .tc := ⟨.hbm, 122, rfl⟩
abbrev main_v60 : Ref sig .tc := ⟨.hbm, 123, rfl⟩
abbrev main_v61 : Ref sig .tc := ⟨.hbm, 124, rfl⟩
abbrev main_cst_15 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_16 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩

abbrev nD : Nat := 1
abbrev τ : Topo := Topo.v7x

variable {F : FTy → Type} [FloatOps F]
-- ==== Proof.Values.lean ====
/-
  WHAT THE KERNEL COMPUTES FROM ONE PAIR OF ROWS, over any floats.

  A pair names two rows `u` and `v` of the table, 16 numbers each. The SparseCore half of the kernel keeps two sums for the
  pair, going over the columns from 0 to 15 and starting from zero: `sVal`, of the squared differences, and `tVal`,
  of the two squares (the one of `u` added first). The order of the additions is the kernel's.
-/
module

public import Idealize.ShloMosaic.PureOps

@[expose] public section

noncomputable section

namespace Cert.Proof.Values

open Idealize.ShloMosaic

variable {F : FTy → Type} [FloatOps F]

/-- The index of row `i`, column `j`. -/
abbrev ix2 {a b : ℕ} (i : Fin a) (j : Fin b) : (⟨2, ![a, b]⟩ : Shape).Idx :=
  fun | 0 => i | 1 => j | ⟨_ + 2, h⟩ => absurd h (Nat.not_lt.2 (Nat.le_add_left _ _))

/-- The columns in the order the kernel visits them. -/
abbrev cols : List (Fin 16) := [0, 1, 2, 3, 4, 5, 6, 7, 8, 9, 10, 11, 12, 13, 14, 15]

/-- The zero both sums start from. -/
abbrev zero32 : F .f32 := Scalar.ofBits .f32 0x00000000#32

/-- The sum of the squared differences of the two rows. -/
def sVal (u v : Fin 16 → F .f32) : F .f32 :=
  cols.foldl (fun acc j => FloatOps.addf acc (FloatOps.mulf (FloatOps.subf (u j) (v j)) (FloatOps.subf (u j) (v j)))) zero32

/-- The sum of the squares of the two rows. -/
def tVal (u v : Fin 16 → F .f32) : F .f32 :=
  cols.foldl (fun acc j => FloatOps.addf (FloatOps.addf acc (FloatOps.mulf (u j) (u j))) (FloatOps.mulf (v j) (v j))) zero32

end Cert.Proof.Values

end
-- ==== Proof.Gathers.lean ====
/-
  SEVERAL INDIRECT GATHERS OUTSTANDING ON ONE SEMAPHORE.

  An indirect gather is a family of row transfers, one for each word of its list, all crediting one DMA semaphore.
  Here `B` such gathers are started on the same semaphore before any is waited for. The machine credits rows in any
  order, so a wait sized to one gather that is not the last says nothing of any row; only the wait that brings the
  units consumed to the whole amount knows that every row has landed. That is a counted batch (`Transfers.Batch`)
  whose members are the ROWS: `B * o` transfers of `N` units. This file has

    * `rowDone`: what one row's transfer delivers, and `gatherDone`, what a gather's rows deliver together;
    * `rowDone_join`: the rows' deliveries are the gather's;
    * `wp_gatherBatch`: a gather issued as the next `o` members of a batch;
    * `bigSep_groups`: the batch's deliveries grouped by gather.
-/
module

public import Idealize.ShloMosaic.Lib.Batch
public import Idealize.ShloMosaic.Lib.SparseCore.Stream

@[expose] public section

noncomputable section

namespace Cert.Proof.Gathers

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

/-! ## Members of a batch taken several at a time -/

section Groups

variable {M : Type} [URA M]

/-- The members from `j` on are the next `o` and those from `j + o` on. -/
theorem pending_split {n o j : ℕ} (h : j + o ≤ n) (Φ : Fin n → sProp M) :
    bigSep (pending j) Φ
      = iprop((bigSep Finset.univ fun i : Fin o => Φ ⟨j + i, by omega⟩) ∗ bigSep (pending (j + o)) Φ) := by
  classical
  let e : Fin o ↪ Fin n := ⟨fun i => ⟨j + i, by omega⟩, fun a b hab => Fin.ext (by have := congrArg Fin.val hab; simp only at this; omega)⟩
  have hu : pending (n := n) j = (Finset.univ.map e) ∪ pending (j + o) := by
    ext t
    simp only [pending, Finset.mem_union, Finset.mem_filter, Finset.mem_univ, true_and, Finset.mem_map]
    constructor
    · intro ht
      by_cases h' : j + o ≤ t.val
      · exact .inr h'
      · exact .inl ⟨⟨t.val - j, by omega⟩, Fin.ext (by show j + (t.val - j) = t.val; omega)⟩
    · rintro (⟨i, rfl⟩ | h')
      · exact Nat.le_add_right _ _
      · omega
  have hd : Disjoint (Finset.univ.map e) (pending (n := n) (j + o)) := by
    refine Finset.disjoint_left.mpr fun t ht ht' => ?_
    obtain ⟨i, -, rfl⟩ := Finset.mem_map.mp ht
    have h1 : j + o ≤ j + i.val := (Finset.mem_filter.mp ht').2
    have := i.isLt
    omega
  rw [hu, BI.bigSep_union hd, BI.bigSep_map]; rfl

/-- A family over `B * o` members is a family of `B` groups of `o`, group `b`'s member `i` at `o * b + i`. -/
theorem bigSep_groups {B o : ℕ} (Φ : Fin (B * o) → sProp M) :
    bigSep Finset.univ Φ = bigSep Finset.univ fun b : Fin B => bigSep Finset.univ fun i : Fin o => Φ (finProdFinEquiv (b, i)) := by
  rw [BI.bigSep_univ_equiv finProdFinEquiv Φ, BI.bigSep_univ_prod]

end Groups

/-! ## One gather's rows -/

section Gather

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The list's index whose word names the row of place `i`. -/
abbrev entryAt {o : ℕ} (hn : si.numel = o) (i : Fin o) : si.Idx := si.rowMajor.symm (i.cast hn.symm)

/-- What row `i`'s transfer of a gather delivers: the destination's row written with the source's row that the list
    names there, the list's word at that place, and the row's piece of the source's share. -/
def rowDone (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (i : Fin (s.size hg.axis')) : sProp 𝕄 :=
  iprop(((dst.view.loc c ↦[(dst.view.slice (s.rowRect hg.axis' i)).set]{fullShare}
          ((dst.view.slice (s.rowRect hg.axis' i)).write (Elt F) fd
            (fun x : (s.rowShape hg.axis').Idx => src.view.read (Elt F) fs (hg.rowIdx (rows (offs.view.read (Elt F) fo) hn hin i) x)) Finset.univ))
      ∗ (offs.view.loc c ↦[{offs.view.emb (entryAt hn i)}]{qo} fo))
    ∗ (src.view.loc c ↦[src.view.set]{pieceOf q _ ho i} fs))

/-- What the gather's rows deliver together: the destination written with the gather's payload, the source's share
    and the list's. -/
def gatherDone (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) : sProp 𝕄 :=
  iprop((dst.view.loc c ↦[dst.view.set]{fullShare}
          (dst.view.write (Elt F) fd (gatherPayload hg (src.view.read (Elt F) fs) (rows (offs.view.read (Elt F) fo) hn hin)) Finset.univ))
    ∗ (src.view.loc c ↦[src.view.set]{q} fs) ∗ (offs.view.loc c ↦[offs.view.set]{qo} fo))

theorem entryAt_bijective {o : ℕ} (hn : si.numel = o) : Function.Bijective (entryAt (si := si) hn) :=
  si.rowMajor.symm.bijective.comp (finCongr hn.symm).bijective

/-- The rows' deliveries are the gather's. -/
theorem rowDone_join (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowDone c src dst hg offs hn ho q qo fs fd fo hin)
      ⊢ (gatherDone c src dst hg offs hn q qo fs fd fo hin : sProp 𝕄) := by
  have hrows := pointsTo_rows_write (Ix := Ix) (Name := Name) (U := U) (Lvl := Lvl) c dst.view hg.axis' fd
      (fun i x => src.view.read (Elt F) fs (hg.rowIdx (rows (offs.view.read (Elt F) fo) hn hin i) x))
      (gatherPayload hg (src.view.read (Elt F) fs) (rows (offs.view.read (Elt F) fo) hn hin)) fun i x => by
        unfold gatherPayload; rw [Shape.Gathers.idx_rowRect_emb]
  unfold rowDone gatherDone
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply hrows $$ Hrows
  isplitl [Hsrc]
  · iapply (Entails.of_eq (pointsTo_piecesOf (src.view.set) fs ho q).symm) $$ Hsrc
  · iapply (Entails.of_eq (pointsTo_entries c offs.view (entryAt hn) (entryAt_bijective hn) qo fo).symm) $$ Hoffs

instance rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (i : Fin (s.size hg.axis')) :
    Storable (upEmb : UEmb _ 𝕄) (rowDone c src dst hg offs hn ho q qo fs fd fo hin i) := by
  unfold rowDone; infer_instance

/-! ## A gather issued into a batch of rows -/

/-- `enqueueIndirectGather` at the head of a program, the semaphore's batch having `j` of its `n` members issued:
    holding a share of the source's elements, the destination's outright, a share of the list's whose words are all in
    range, the tile issues the gather's rows as members `j …` and continues with the batch that far on. Each row's
    delivery must give what the batch was allocated to deliver there (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} (ho : 0 < s.size hg.axis')
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ι : Ix) (N : ℕ)
    (hN : ∀ i, (dst.slice (s.rowRect hg.axis' i) (s.stride_rowRect hg.axis' i)).view.dmaCredit = N)
    (hj : j + s.size hg.axis' ≤ n) (hu : u ≤ j * N) (hin : ∀ x, (offs.view.read (Elt F) fo x).toNat < s₀.size hg.axis)
    (hD : ∀ i : Fin (s.size hg.axis'), rowDone c src dst hg offs hn ho q qo fs fd fo hin i ⊢ D ⟨j + i, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hsum : ∑ i, (dst.slice (s.rowRect hg.axis' i) (s.stride_rowRect hg.axis' i)).view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_split hj fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view (entryAt hn) (entryAt_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd) ∗ (offs.view.loc c ↦[{offs.view.emb (entryAt hn i)}]{qo} fo))
          ∗ (src.view.loc c ↦[src.view.set]{pieceOf q _ ho i} fs)) ∗ count EC (γ ⟨j + i, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
          ((dst.view.slice (s.rowRect hg.axis' i)).write (Elt F) fd (fun x : (s.rowShape hg.axis').Idx => src.view.read (Elt F) fs (hg.rowIdx (r i) x)) Finset.univ))
        ∗ (offs.view.loc c ↦[{offs.view.emb (entryAt hn i)}]{qo} fo))
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hc := batch_creditUpdate EC (g := (c, SemLoc.dma sem)) (N := N) (D := D) (γ := γ) (γ₀ := γ₀) (ι := κ) ⟨j + i, by omega⟩ (hD i)
        rw [← hN i] at hc ⊢
        iapply hc
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Gather

end Cert.Proof.Gathers

end
-- ==== Proof.Range.lean ====
/-
  WHAT THE PRECONDITION SAYS. Every word of the pairs, read as a signed word, is at least 0 and below 1000000: it is its own value,
  and names a row of the table.
-/
module

public import proofs.«01_k».proof.Pre_pairs_in_rows

@[expose] public section

noncomputable section

namespace Cert.Proof.Range

open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem word_lt (v : BitVec 32) (e : IntOp.andi (IntOp.cmpi .sge v 0#32) (IntOp.cmpi .slt v 1000000#32) = 1#1) : v.toNat < 1000000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem words_lt {F : FTy → Type} [FloatOps F] [Cert.Pre_pairs_in_rows.Facts] (p : IVec Cert.Pre_pairs_in_rows.S16384x2 32)
    (l : IVec Cert.Pre_pairs_in_rows.S16384 32) (x : FVec F Cert.Pre_pairs_in_rows.S1000000x16 .f32)
    (h : Cert.Pre_pairs_in_rows.fn (F := F) p l x = fun _ => 1#1) (j : Cert.Pre_pairs_in_rows.S16384x2.Idx) : (p j).toNat < 1000000 := by
  have e := congrFun h j
  simp only [Cert.Pre_pairs_in_rows.fn, andi, cmpi, broadcastInDim, constantI] at e
  exact word_lt _ e

end Cert.Proof.Range

end
-- ==== Proof.Run.Frame.lean ====
/-
  THE FRAME CLAIM OF THE PROGRAM: its run with the result dropped.
-/
module

public import proofs.«01_k».proof.Proof.Run.Main
public import proofs.«01_k».proof.Proof.Range

@[expose] public section

noncomputable section

namespace Cert.Proof.Run

open Cert.Kernel Cert.Kernel.Gen

open Idealize.ShloMosaic Idealize.SL.Sem

/-- Under the precondition every word the tiles read names a row. -/
theorem words_lt [Cert.Pre_pairs_in_rows.Facts] (m : (ℓ : Loc nD τ sig) → Buf (Elt Bits) ℓ) (h : Cert.Pre_Kernel m) (d : Dev nD) (j : S32x8x128.Idx) :
    (words m d j).toNat < 1000000 := Range.words_lt _ _ _ (h d) _

theorem frame [Cert.Pre_pairs_in_rows.Facts] : Cert.quiescent_Kernel := fun m ρ hpre =>
  (θ_run Cert.Kernel.defs _ _).mono (fun _ h => ⟨fun c => ⟨(h.1 c).1, (h.1 c).2.1, (h.1 c).2.2.1⟩, h.2⟩) (run_main (F := Bits) m ρ (words_lt m hpre))

end Cert.Proof.Run

end
-- ==== Proof.RunIdeal.Setup.lean ====
/-
  THE LAUNCH AS THE PROOF SEES IT: the program's SparseCore configuration, the resource algebra, the buffers a tile
  addresses, and what the one SparseCore call hands each tile and takes back.

  The algebra has three parts: the handshakes' rounds (`EH`), the rounds of the TensorCore region's staging buffers
  (`EP`), and the counters the tiles' own copies draw their tokens from.
-/
module

public import proofs.«01_k».proof.Defs
public import proofs.«01_k».proof.Proof.Values
public import proofs.«01_k».proof.Proof.Gathers
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Values

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The rounds of the TensorCore region's staging cells, in the middle of the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The buffers -/

/-- The pairs laid out for the tiles, the table, and the two outputs of the SparseCore half, as locations of device `d`. -/
abbrev iLoc (d : Dev nD) : Loc nD τ sig := (SparseCore.T d).loc main_v0
abbrev xLoc (d : Dev nD) : Loc nD τ sig := (SparseCore.T d).loc main_arg2
abbrev sLoc (d : Dev nD) : Loc nD τ sig := (SparseCore.T d).loc main_v1_0
abbrev tLoc (d : Dev nD) : Loc nD τ sig := (SparseCore.T d).loc main_v1_1

local notation "iV" => (Memref.whole Cert.KernelIdeal.main_v0_scv : Memref Cert.KernelIdeal.sig Kind.scVector Space.hbm Cert.KernelIdeal.S32x8x128 EltTy.i32)
local notation "xV" => (Memref.whole Cert.KernelIdeal.main_arg2_scv : Memref Cert.KernelIdeal.sig Kind.scVector Space.hbm Cert.KernelIdeal.S1000000x16 EltTy.f32)
local notation "sV" => (Memref.whole Cert.KernelIdeal.main_v1_0_scv : Memref Cert.KernelIdeal.sig Kind.scVector Space.hbm Cert.KernelIdeal.S16384 EltTy.f32)
local notation "tV" => (Memref.whole Cert.KernelIdeal.main_v1_1_scv : Memref Cert.KernelIdeal.sig Kind.scVector Space.hbm Cert.KernelIdeal.S16384 EltTy.f32)
local notation "lV" => (Memref.whole Cert.KernelIdeal.cc0_scratch0 : Memref Cert.KernelIdeal.sig Kind.scVector Space.vmem Cert.KernelIdeal.S8x128 EltTy.i32)
local notation "gV" => (Memref.whole Cert.KernelIdeal.cc0_scratch1 : Memref Cert.KernelIdeal.sig Kind.scVector Space.vmem Cert.KernelIdeal.S1024x16 EltTy.f32)
local notation "aV" => (Memref.whole Cert.KernelIdeal.cc0_scratch2 : Memref Cert.KernelIdeal.sig Kind.scVector Space.vmem Cert.KernelIdeal.S512 EltTy.f32)
local notation "bV" => (Memref.whole Cert.KernelIdeal.cc0_scratch3 : Memref Cert.KernelIdeal.sig Kind.scVector Space.vmem Cert.KernelIdeal.S512 EltTy.f32)

/-! ## Indices -/

theorem S32x8x128_numel : S32x8x128.numel = 32768 := by decide
/-- The word at place `n` of the pairs, read in row-major order. -/
def wordAt (w : S32x8x128.Idx → BitVec 32) (n : Fin 32768) : BitVec 32 := w (S32x8x128.rowMajor.symm (n.cast S32x8x128_numel.symm))
/-- Row `r` of the table, at column `j`. -/
def rowT (x : S1000000x16.Idx → F .f32) (r : BitVec 32) (j : Fin 16) : F .f32 :=
  x (ix2 ⟨r.toNat % 1000000, Nat.mod_lt _ (by decide)⟩ j)

variable [FloatOps F] [Named F]

/-- What the SparseCore half leaves in its first output at pair `q`: the sum of squared differences of the rows its two
    words name; -/
def sOut (x : S1000000x16.Idx → F .f32) (w : S32x8x128.Idx → BitVec 32) : S16384.Idx → F .f32 := fun q =>
  sVal (rowT x (wordAt w ⟨2 * (q 0).val, by have := (q 0).isLt; simp only [Matrix.cons_val_zero] at this; omega⟩))
    (rowT x (wordAt w ⟨2 * (q 0).val + 1, by have := (q 0).isLt; simp only [Matrix.cons_val_zero] at this; omega⟩))
/-- and in its second: the sum of the squares of both. -/
def tOut (x : S1000000x16.Idx → F .f32) (w : S32x8x128.Idx → BitVec 32) : S16384.Idx → F .f32 := fun q =>
  tVal (rowT x (wordAt w ⟨2 * (q 0).val, by have := (q 0).isLt; simp only [Matrix.cons_val_zero] at this; omega⟩))
    (rowT x (wordAt w ⟨2 * (q 0).val + 1, by have := (q 0).isLt; simp only [Matrix.cons_val_zero] at this; omega⟩))

/-! ## What the handshakes carry -/

/-- Tile `i` of SparseCore `c` is worker `2 * i + c`. -/
abbrev wid (c : Fin 2) (i : Fin 16) : Fin 32 := finProdFinEquiv (i, c)

theorem odiv : 32 ∣ S16384.size 0 := ⟨512, rfl⟩
/-- Worker `w`'s part of an output: 512 places from `512 * w`. -/
abbrev oRect (w : Fin 32) : Rect S16384 := Rect.part (s := S16384) (a₀ := 0) odiv w
abbrev oSet (w : Fin 32) : Finset S16384.Idx := ((sV).view.slice (oRect w)).set
/-- Worker `w`'s share of what every worker reads. -/
abbrev rq (w : Fin 32) : PosShare TreeShare := pieceOf fullShare 32 (by decide) w

variable (m : (ℓ : Loc nD τ sig) → Buf (Elt F) ℓ) (W : (d : Dev nD) → S32x8x128.Idx → BitVec 32)

/-- A worker is handed a share of the pairs and of the table, and its part of both outputs; -/
def goR (d : Dev nD) (w : Fin 32) : sProp 𝕄 :=
  iprop((iLoc d ↦{rq w} W d) ∗ (xLoc d ↦{rq w} m (xLoc d)) ∗ (sLoc d ↦[oSet w]{fullShare} m (sLoc d)) ∗ (tLoc d ↦[oSet w]{fullShare} m (tLoc d)))
/-- and brings them back, the outputs' parts written. -/
def tdR (d : Dev nD) (w : Fin 32) : sProp 𝕄 :=
  iprop((iLoc d ↦{rq w} W d) ∗ (xLoc d ↦{rq w} m (xLoc d)) ∗ (sLoc d ↦[oSet w]{fullShare} sOut (m (xLoc d)) (W d))
    ∗ (tLoc d ↦[oSet w]{fullShare} tOut (m (xLoc d)) (W d)))

/-- The one call hands each SparseCore what its sixteen tiles take. -/
def P : (K (F := F)).Pay (nD := nD) (Val := Elt F) (Name := ℕ) (U := UU) where
  st := fun q d c => match q with | 0 => bigSep Finset.univ fun i : Fin 16 => goR m W d (wid (Fin.cast nCore_zero c) i)
  dn := fun q d c => match q with | 0 => bigSep Finset.univ fun i : Fin 16 => tdR m W d (wid (Fin.cast nCore_zero c) i)
  go := fun q d c i => match q with | 0 => goR m W d (wid (Fin.cast nCore_zero c) (Fin.cast nSub_zero i))
  td := fun q d c i => match q with | 0 => tdR m W d (wid (Fin.cast nCore_zero c) (Fin.cast nSub_zero i))
  x := fun _ _ => iprop(emp)

instance goR_storable (d : Dev nD) (w : Fin 32) : BI.Storable (upEmb : UEmb _ 𝕄) (goR m W d w) := by unfold goR; infer_instance
instance tdR_storable (d : Dev nD) (w : Fin 32) : BI.Storable (upEmb : UEmb _ 𝕄) (tdR m W d w) := by unfold tdR; infer_instance

instance P_storable : (P (F := F) m W).IsStorable where
  st q d c := match q with
    | 0 => (inferInstance : BI.Storable (upEmb : UEmb _ 𝕄) (bigSep Finset.univ fun i : Fin 16 => goR m W d (wid (Fin.cast nCore_zero c) i)))
  dn q d c := match q with
    | 0 => (inferInstance : BI.Storable (upEmb : UEmb _ 𝕄) (bigSep Finset.univ fun i : Fin 16 => tdR m W d (wid (Fin.cast nCore_zero c) i)))
  go q d c i := match q with
    | 0 => (inferInstance : BI.Storable (upEmb : UEmb _ 𝕄) (goR m W d (wid (Fin.cast nCore_zero c) (Fin.cast nSub_zero i))))
  td q d c i := match q with
    | 0 => (inferInstance : BI.Storable (upEmb : UEmb _ 𝕄) (tdR m W d (wid (Fin.cast nCore_zero c) (Fin.cast nSub_zero i))))

/-! ## A tile -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker a tile's coordinates name. -/
abbrev wL (L : grid0.Coords) : Fin 32 := wid (Fin.cast bound_zero (L 0)) (Fin.cast bound_one (L 1))
theorem wL_val (L : grid0.Coords) : (wL L).val = 2 * (L 1).val + (L 0).val := by
  show (L 0).val + 2 * (L 1).val = _; omega

end Cert.Proof.RunIdeal

end
-- ==== Proof.RunIdeal.Rows.lean ====
/-
  THE EIGHT GATHERS OF A TILE. A tile's list of words is 8 rows of 128; gather `b` streams the table's rows that row `b` of the
  list names into places `128 b …` of the gathered buffer. All eight go out on one semaphore before the first of eight waits,
  so they are one batch of 1024 rows, row `i` of gather `b` being member `128 b + i`; only the eighth wait hands anything back.
-/
module

public import proofs.«01_k».proof.Proof.RunIdeal.Setup
public import proofs.«01_k».proof.Proof.Gathers

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Values Cert.Proof.Gathers

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x8x128 EltTy.i32)
local notation "xV" => (Memref.whole Cert.KernelIdeal.main_arg2_scv : Memref Cert.KernelIdeal.sig Kind.scVector Space.hbm Cert.KernelIdeal.S1000000x16 EltTy.f32)
local notation "sV" => (Memref.whole Cert.KernelIdeal.main_v1_0_scv : Memref Cert.KernelIdeal.sig Kind.scVector Space.hbm Cert.KernelIdeal.S16384 EltTy.f32)
local notation "tV" => (Memref.whole Cert.KernelIdeal.main_v1_1_scv : Memref Cert.KernelIdeal.sig Kind.scVector Space.hbm Cert.KernelIdeal.S16384 EltTy.f32)
local notation "lV" => (Memref.whole Cert.KernelIdeal.cc0_scratch0 : Memref Cert.KernelIdeal.sig Kind.scVector Space.vmem Cert.KernelIdeal.S8x128 EltTy.i32)
local notation "gV" => (Memref.whole Cert.KernelIdeal.cc0_scratch1 : Memref Cert.KernelIdeal.sig Kind.scVector Space.vmem Cert.KernelIdeal.S1024x16 EltTy.f32)
local notation "aV" => (Memref.whole Cert.KernelIdeal.cc0_scratch2 : Memref Cert.KernelIdeal.sig Kind.scVector Space.vmem Cert.KernelIdeal.S512 EltTy.f32)
local notation "bV" => (Memref.whole Cert.KernelIdeal.cc0_scratch3 : Memref Cert.KernelIdeal.sig Kind.scVector Space.vmem Cert.KernelIdeal.S512 EltTy.f32)

/-! ## The list a tile fetches -/

section Tile
variable (d : Dev nD) (L : grid0.Coords)

abbrev irowK (L : grid0.Coords) : Rect S32x8x128 := Rect.unit (s := S32x8x128) (k0_off1 L) S1x8x128.size (k0_off1_inb L)
/-- The tile's row of the laid-out pairs, as the tile addresses it. -/
abbrev iRowK (L : grid0.Coords) : Memref sig .scVector .hbm S8x128 .i32 := ((iV).slice (irowK L) (fun _ => rfl)).squeeze S8x128 squeezes_S1x8x128_S8x128

/-- The words the tile fetches. -/
def listL (w : S32x8x128.Idx → BitVec 32) : S8x128.Idx → BitVec 32 := fun x => w ((iRowK L).view.emb x)

theorem word_lt (n : ℕ) (hn : n < 1024) : 1024 * (wL L).val + n < 32768 := by have := (wL L).isLt; omega

/-- Place `128 a + b` of the tile's words is place `1024 w + 128 a + b` of all. -/
theorem listL_eq (w : S32x8x128.Idx → BitVec 32) (x : S8x128.Idx) (n : ℕ) (hn : n < 1024) (hx : 128 * (x 0).val + (x 1).val = n) :
    listL L w x = wordAt w ⟨1024 * (wL L).val + n, word_lt L n hn⟩ := by
  unfold listL wordAt
  congr 1
  rw [Equiv.eq_symm_apply]
  apply Fin.ext
  have hz := Shape.rowMajor_reshapeEquiv (squeezes_S1x8x128_S8x128).numel_eq x
  set z := Shape.reshapeEquiv (squeezes_S1x8x128_S8x128).numel_eq x with hzd
  have e : ∀ a, (((iRowK L).view.emb x) a).val = k0_off1 L a + 1 * (z a).val := fun a => rfl
  have h3 := Shape.rowMajor_val_three ((iRowK L).view.emb x : S32x8x128.Idx)
  have h3' := Shape.rowMajor_val_three (z : S1x8x128.Idx)
  have h2 := Shape.rowMajor_val_two (x : S8x128.Idx)
  have e0 := e 0; have e1 := e 1; have e2 := e 2
  have z0 : (z 0).val < 1 := (z 0).isLt
  rw [k0_off1_eq] at e0 e1 e2
  simp only [Matrix.cons_val] at e0 e1 e2 h3 h3' h2
  show (S32x8x128.rowMajor ((iRowK L).view.emb x)).val = 1024 * (wL L).val + n
  rw [wL_val]
  change (S1x8x128.rowMajor z).val = (S8x128.rowMajor x).val at hz
  rw [show (S32x8x128.rowMajor ((iRowK L).view.emb x)).val = _ from h3, e0, e1, e2]
  rw [show (S1x8x128.rowMajor z).val = _ from h3', show (S8x128.rowMajor x).val = _ from h2] at hz
  omega

/-! ## The pieces a gather names -/

theorem inb_dst (b : Fin 8) : ∀ a, (![128 * b.val, 0] : Fin 2 → ℕ) a + S128x16.size a ≤ S1024x16.size a := by revert b; decide
theorem inb_off (b : Fin 8) : ∀ a, (![b.val, 0] : Fin 2 → ℕ) a + S1x128.size a ≤ S8x128.size a := by revert b; decide

/-- The table, block `b` of the gathered buffer, and row `b` of the list, as the tile addresses them. -/
abbrev srcA : Memref sig .scVector .hbm S1000000x16 .f32 := (xV).slice (Rect.unit (s := S1000000x16) ![0, 0] S1000000x16.size inb_S1000000x16_S1000000x16_0_0) (fun _ => rfl)
abbrev dstB (b : Fin 8) : Memref sig .scVector .vmem S128x16 .f32 := (gV).slice (Rect.unit (s := S1024x16) ![128 * b.val, 0] S128x16.size (inb_dst b)) (fun _ => rfl)
abbrev offB (b : Fin 8) : Memref sig .scVector .vmem S128 .i32 :=
  ((lV).slice (Rect.unit (s := S8x128) ![b.val, 0] S1x128.size (inb_off b)) (fun _ => rfl)).squeeze S128 squeezes_S1x128_S128

theorem gdiv : 8 ∣ S1024x16.size 0 := ⟨128, rfl⟩
theorem ldiv : 8 ∣ S8x128.size 0 := ⟨1, rfl⟩

theorem dst_eq (b : Fin 8) : Rect.unit (s := S1024x16) ![128 * b.val, 0] S128x16.size (inb_dst b) = Rect.part (s := S1024x16) (a₀ := 0) gdiv b := by
  unfold Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]
theorem off_eq (b : Fin 8) : Rect.unit (s := S8x128) ![b.val, 0] S1x128.size (inb_off b) = Rect.part (s := S8x128) (a₀ := 0) ldiv b := by
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_src : (srcA).view.set = (Finset.univ : Finset S1000000x16.Idx) := by
  refine Finset.eq_univ_iff_forall.mpr fun p => Finset.mem_map.mpr ⟨p, Finset.mem_univ _, ?_⟩
  funext a
  apply Fin.ext
  match a with
  | 0 => show 0 + 1 * (p 0).val = _; omega
  | 1 => show 0 + 1 * (p 1).val = _; omega
theorem set_dst (b : Fin 8) : (dstB b).view.set = (Rect.part (s := S1024x16) (a₀ := 0) gdiv b).set := by
  show ((View.whole (cc0_scratch1 : Ref sig .scVector)).slice (Rect.unit (s := S1024x16) ![128 * b.val, 0] S128x16.size (inb_dst b))).set = _
  rw [View.set_slice_whole]; exact dst_eq b ▸ rfl
theorem set_off (b : Fin 8) : (offB b).view.set = (Rect.part (s := S8x128) (a₀ := 0) ldiv b).set := by
  show (((View.whole (cc0_scratch0 : Ref sig .scVector)).slice (Rect.unit (s := S8x128) ![b.val, 0] S1x128.size (inb_off b))).reshape S128 squeezes_S1x128_S128.numel_eq).set = _
  rw [View.set_reshape, View.set_slice_whole]; exact off_eq b ▸ rfl

abbrev gSet (b : Fin 8) : Finset S1024x16.Idx := (dstB b).view.set
abbrev lSet (b : Fin 8) : Finset S8x128.Idx := (offB b).view.set
theorem dsts_disjoint : ∀ i ∈ (Finset.univ : Finset (Fin 8)), ∀ j ∈ (Finset.univ : Finset (Fin 8)), i ≠ j → Disjoint (gSet i) (gSet j) :=
  fun i _ j _ h => by unfold gSet; rw [set_dst, set_dst]; exact Rect.part_disjoint gdiv h
theorem offs_disjoint : ∀ i ∈ (Finset.univ : Finset (Fin 8)), ∀ j ∈ (Finset.univ : Finset (Fin 8)), i ≠ j → Disjoint (lSet i) (lSet j) :=
  fun i _ j _ h => by unfold lSet; rw [set_off, set_off]; exact Rect.part_disjoint ldiv h
theorem dsts_cover : (Finset.univ : Finset (Fin 8)).biUnion gSet = Finset.univ :=
  (Finset.biUnion_congr rfl fun b _ => set_dst b).trans (Rect.biUnion_part gdiv)
theorem offs_cover : (Finset.univ : Finset (Fin 8)).biUnion lSet = Finset.univ :=
  (Finset.biUnion_congr rfl fun b _ => set_off b).trans (Rect.biUnion_part ldiv)

theorem gPts_blocks (f : Buf (Elt F) ((V d (cV L) (jV L)).loc cc0_scratch1)) :
    ((V d (cV L) (jV L)).loc cc0_scratch1 ↦{fullShare} f : sProp 𝕄)
      = bigSep Finset.univ fun b : Fin 8 => (V d (cV L) (jV L)).loc cc0_scratch1 ↦[gSet b]{fullShare} f := by
  rw [← pointsTo_biUnion Finset.univ (ℓ := (V d (cV L) (jV L)).loc cc0_scratch1) gSet dsts_disjoint, dsts_cover]; try rfl
theorem lPts_rows (f : Buf (Elt F) ((V d (cV L) (jV L)).loc cc0_scratch0)) :
    ((V d (cV L) (jV L)).loc cc0_scratch0 ↦{fullShare} f : sProp 𝕄)
      = bigSep Finset.univ fun b : Fin 8 => (V d (cV L) (jV L)).loc cc0_scratch0 ↦[lSet b]{fullShare} f := by
  rw [← pointsTo_biUnion Finset.univ (ℓ := (V d (cV L) (jV L)).loc cc0_scratch0) lSet offs_disjoint, offs_cover]; try rfl
/-- The tile's share of the table is its gathers' shares. -/
theorem xPts_pieces (q : PosShare TreeShare) (x : S1000000x16.Idx → F .f32) :
    (xLoc d ↦{q} x : sProp 𝕄)
      = bigSep Finset.univ fun b : Fin 8 => (srcA).view.loc (V d (cV L) (jV L)) ↦[(srcA).view.set]{pieceOf q 8 (by decide) b} x := by
  have h := pointsTo_piecesOf (Ix := HIx 1) (Name := ℕ) (U := UU) (Lvl := ℕ) (ℓ := xLoc d) (Val := Elt F) Finset.univ x (show 0 < 8 by decide) q
  rw [← set_src] at h
  exact (congrArg (fun I => (xLoc d ↦[I]{q} x : sProp 𝕄)) set_src.symm).trans h

/-! ## What a gather reads and leaves -/

theorem offs_numel : S128.numel = S128x16.size gathers_S1000000x16_S128x16.axis' := rfl
theorem rows_pos : 0 < S128x16.size gathers_S1000000x16_S128x16.axis' := by decide

theorem offB_emb (b : Fin 8) (i : S128.Idx) : (offB b).view.emb i = (ix2 b (i 0) : S8x128.Idx) := by
  have hz := Shape.rowMajor_reshapeEquiv (squeezes_S1x128_S128).numel_eq i
  set z := Shape.reshapeEquiv (squeezes_S1x128_S128).numel_eq i with hzd
  have e : ∀ a, (((offB b).view.emb i) a).val = (![b.val, 0] : Fin 2 → ℕ) a + 1 * (z a).val := fun a => rfl
  have z0 : (z 0).val < 1 := (z 0).isLt
  rw [show (S1x128.rowMajor z).val = _ from Shape.rowMajor_val_two (z : S1x128.Idx), show (S128.rowMajor i).val = _ from Shape.rowMajor_val_one (i : S128.Idx)] at hz
  simp only [Matrix.cons_val] at hz
  funext a; apply Fin.ext
  match a with
  | 0 => refine (e 0).trans ?_; show b.val + 1 * (z 0).val = b.val; omega
  | 1 => refine (e 1).trans ?_; show 0 + 1 * (z 1).val = (i 0).val; omega

theorem read_offB (b : Fin 8) (f : S8x128.Idx → BitVec 32) (i : S128.Idx) : (offB b).view.read (Elt F) f i = f (ix2 b (i 0)) :=
  congrArg f (offB_emb b i)

variable (w : S32x8x128.Idx → BitVec 32) (hw : ∀ j, (w j).toNat < 1000000)

theorem listL_lt (hw : ∀ j, (w j).toNat < 1000000) (b : Fin 8) : ∀ x, ((offB b).view.read (Elt F) (listL L w) x).toNat < S1000000x16.size gathers_S1000000x16_S128x16.axis :=
  fun x => by rw [read_offB]; exact hw _

/-- What the gathered buffer holds at the end: at place `r`, the row that word `r` of the tile names. -/
def gath (x : S1000000x16.Idx → F .f32) : S1024x16.Idx → F .f32 := fun p =>
  rowT x (wordAt w ⟨1024 * (wL L).val + (p 0).val, word_lt L _ (p 0).isLt⟩) (p 1)

theorem entry_zero (i : Fin 128) (h : 128 = S128.numel) : (S128.rowMajor.symm (i.cast h) : S128.Idx) 0 = i := by
  apply Fin.ext
  refine (Shape.rowMajor_val_one (S128.rowMajor.symm (i.cast h) : S128.Idx)).symm.trans ?_
  exact congrArg Fin.val (Equiv.apply_symm_apply S128.rowMajor (i.cast h))

theorem gath_block (x : S1000000x16.Idx → F .f32) (f : S1024x16.Idx → F .f32) (b : Fin 8) :
    ∀ p ∈ (dstB b).view.set, (dstB b).view.write (Elt F) f (SparseCore.gatherPayload gathers_S1000000x16_S128x16 ((srcA).view.read (Elt F) x)
        (SparseCore.rows ((offB b).view.read (Elt F) (listL L w)) offs_numel (listL_lt L w hw b))) Finset.univ p = gath L w x p := by
  intro p hp
  obtain ⟨y, -, rfl⟩ := Finset.mem_map.mp hp
  refine (View.write_emb_of_mem (v := (dstB b).view) (Val := Elt F) f _ (Finset.mem_univ y)).trans ((cast_eq _ _).trans ?_)
  have hy0 : (y 0).val < 128 := (y 0).isLt
  have e0 : (((dstB b).view.emb y) 0).val = 128 * b.val + (y 0).val := by
    show 128 * b.val + 1 * (y 0).val = _; omega
  have e1 : ((dstB b).view.emb y) 1 = y 1 := Fin.ext (by show 0 + 1 * (y 1).val = _; omega)
  have hl : listL L w (ix2 b (y 0)) = wordAt w ⟨1024 * (wL L).val + (((dstB b).view.emb y) 0).val, word_lt L _ (((dstB b).view.emb y) 0).isLt⟩ :=
    listL_eq L w _ _ (((dstB b).view.emb y) 0).isLt (by rw [e0])
  unfold gath
  rw [← hl, e1]
  show x ((srcA).view.emb _) = x _
  congr 1
  funext a; apply Fin.ext
  match a with
  | 0 =>
    show 0 + 1 * ((offB b).view.read (Elt F) (listL L w) (S128.rowMajor.symm ((y 0).cast _))).toNat = (listL L w (ix2 b (y 0))).toNat % 1000000
    have hlt : (listL L w (ix2 b (y 0))).toNat < 1000000 := hw _
    refine Eq.trans ?_ (Nat.mod_eq_of_lt hlt).symm
    rw [read_offB, Nat.zero_add, Nat.one_mul]
    exact congrArg (fun t : Fin 128 => (listL L w (ix2 b t)).toNat) (entry_zero (y 0) _)
  | 1 => show 0 + 1 * (y 1).val = (y 1).val; omega

/-! ## The batch -/

/-- A row's transfer counts 512 on the semaphore, a whole gather 65536. -/
theorem row_credit₀ : ((dstB 0).slice (S128x16.rowRect gathers_S1000000x16_S128x16.axis' ⟨0, rows_pos⟩) (S128x16.stride_rowRect gathers_S1000000x16_S128x16.axis' ⟨0, rows_pos⟩)).view.dmaCredit = 512 := by decide
theorem row_credit (b : Fin 8) (i : Fin (S128x16.size gathers_S1000000x16_S128x16.axis')) :
    ((dstB b).slice (S128x16.rowRect gathers_S1000000x16_S128x16.axis' i) (S128x16.stride_rowRect gathers_S1000000x16_S128x16.axis' i)).view.dmaCredit = 512 := row_credit₀
theorem dst_credit₀ : (dstB 0).view.dmaCredit = 65536 := by decide
theorem dst_credit (b : Fin 8) : (dstB b).view.dmaCredit = 65536 := dst_credit₀

/-- Row `i` of gather `b`, landed. -/
def rowBI (x : S1000000x16.Idx → F .f32) (f : S1024x16.Idx → F .f32) (b : Fin 8) (i : Fin 128) : sProp 𝕄 :=
  rowDone (V d (cV L) (jV L)) srcA (dstB b) gathers_S1000000x16_S128x16 (offB b) offs_numel rows_pos
    (pieceOf (rq (wL L)) 8 (by decide) b) fullShare x f (listL L w) (listL_lt L w hw b) i

instance rowBI_storable (x : S1000000x16.Idx → F .f32) (f : S1024x16.Idx → F .f32) (b : Fin 8) (i : Fin 128) :
    BI.Storable (upEmb : UEmb _ 𝕄) (rowBI d L w hw x f b i) := rowDone_storable _ _ _ _ _ _ _ _ _ _ _ _ _ _

/-- The batch's members: row `i` of gather `b` at `128 b + i`. -/
def rowsD (x : S1000000x16.Idx → F .f32) (f : S1024x16.Idx → F .f32) (t : Fin (8 * 128)) : sProp 𝕄 :=
  rowBI d L w hw x f (finProdFinEquiv.symm t).1 (finProdFinEquiv.symm t).2

theorem rowsD_pair (x : S1000000x16.Idx → F .f32) (f : S1024x16.Idx → F .f32) (b : Fin 8) (i : Fin 128) :
    rowsD d L w hw x f (finProdFinEquiv (b, i)) = rowBI d L w hw x f b i := by unfold rowsD; rw [Equiv.symm_apply_apply]

theorem rowBI_member (x : S1000000x16.Idx → F .f32) (f : S1024x16.Idx → F .f32) (n : ℕ) (hn : n < 8) (i : Fin 128) :
    rowBI d L w hw x f ⟨n, hn⟩ i = rowsD d L w hw x f ⟨128 * n + i, by omega⟩ := by
  rw [← rowsD_pair]
  exact congrArg _ (Fin.ext (by show i.val + 128 * n = 128 * n + i.val; omega))

instance rowsD_storable (x : S1000000x16.Idx → F .f32) (f : S1024x16.Idx → F .f32) (t : Fin (8 * 128)) :
    BI.Storable (upEmb : UEmb _ 𝕄) (rowsD d L w hw x f t) := by unfold rowsD; infer_instance

/-- What gather `b` takes. -/
def preB (x : S1000000x16.Idx → F .f32) (f : S1024x16.Idx → F .f32) (b : Fin 8) : sProp 𝕄 :=
  iprop(((srcA).view.loc (V d (cV L) (jV L)) ↦[(srcA).view.set]{pieceOf (rq (wL L)) 8 (by decide) b} x)
    ∗ ((dstB b).view.loc (V d (cV L) (jV L)) ↦[(dstB b).view.set]{fullShare} f)
    ∗ ((offB b).view.loc (V d (cV L) (jV L)) ↦[(offB b).view.set]{fullShare} listL L w))

/-- Before gather `n` is issued. -/
def Issued (x : S1000000x16.Idx → F .f32) (f : S1024x16.Idx → F .f32) (n : ℕ) : sProp 𝕄 :=
  iprop(bigSep (Transfers.pending n) (preB d L w x f)
    ∗ Transfers.Batch countersEmb (V d (cV L) (jV L)) (.dma cc0_scratch4.sem) (default : HIx 1) 512 (rowsD d L w hw x f) (128 * n) 0)

/-- Before wait `n`: nothing has come back, and every wait so far is on record. -/
def Waiting (x : S1000000x16.Idx → F .f32) (f : S1024x16.Idx → F .f32) (O : CellTallies nD τ sig (HIx 1)) (W : Waits sig (HIx 1)) (n : ℕ) : sProp 𝕄 :=
  iprop(Transfers.Batch countersEmb (V d (cV L) (jV L)) (.dma cc0_scratch4.sem) (default : HIx 1) 512 (rowsD d L w hw x f) (8 * 128) (65536 * n)
    ∗ ∃ W', ⌜∀ p ∈ W', p ∈ W ∨ p.2 = none⌝ ∗ owes (V d (cV L) (jV L)) O W')

variable [FloatOps F] [Named F]

theorem start (x : S1000000x16.Idx → F .f32) (f : S1024x16.Idx → F .f32) :
    iprop((xLoc d ↦{rq (wL L)} x) ∗ ((V d (cV L) (jV L)).loc cc0_scratch1 ↦{fullShare} f) ∗ ((V d (cV L) (jV L)).loc cc0_scratch0 ↦{fullShare} listL L w)
        ∗ semVal (V d (cV L) (jV L), .dma cc0_scratch4.sem) 0)
      ⊢ (|={Set.univ}=> Issued d L w hw x f 0 : sProp 𝕄) := by
  rw [xPts_pieces d L, gPts_blocks d L, lPts_rows d L]
  iintro ⟨Hx, Hg, Hl, Hs⟩
  imod (Transfers.batch_alloc' countersEmb (V d (cV L) (jV L)) (default : HIx 1) 512 (rowsD d L w hw x f)) $$ Hs with HB
  imodintro
  unfold Issued
  isplitr [HB]
  · rw [Transfers.pending_zero]; unfold preB; rw [bigSep_sep', bigSep_sep']
    isplitl [Hx]; · iexact Hx
    isplitl [Hg]; · iexact Hg
    iexact Hl
  · iexact HB

end Tile

end Cert.Proof.RunIdeal

end
-- ==== Proof.RunIdeal.Batch.lean ====
/-
  THE TILE'S BATCH, step by step: each of the eight gathers issued into it, each of the eight waits, and what the last wait hands back.
-/
module

public import proofs.«01_k».proof.Proof.RunIdeal.Rows

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Values Cert.Proof.Gathers

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x8x128 EltTy.i32)
local notation "xV" => (Memref.whole Cert.KernelIdeal.main_arg2_scv : Memref Cert.KernelIdeal.sig Kind.scVector Space.hbm Cert.KernelIdeal.S1000000x16 EltTy.f32)
local notation "sV" => (Memref.whole Cert.KernelIdeal.main_v1_0_scv : Memref Cert.KernelIdeal.sig Kind.scVector Space.hbm Cert.KernelIdeal.S16384 EltTy.f32)
local notation "tV" => (Memref.whole Cert.KernelIdeal.main_v1_1_scv : Memref Cert.KernelIdeal.sig Kind.scVector Space.hbm Cert.KernelIdeal.S16384 EltTy.f32)
local notation "lV" => (Memref.whole Cert.KernelIdeal.cc0_scratch0 : Memref Cert.KernelIdeal.sig Kind.scVector Space.vmem Cert.KernelIdeal.S8x128 EltTy.i32)
local notation "gV" => (Memref.whole Cert.KernelIdeal.cc0_scratch1 : Memref Cert.KernelIdeal.sig Kind.scVector Space.vmem Cert.KernelIdeal.S1024x16 EltTy.f32)
local notation "aV" => (Memref.whole Cert.KernelIdeal.cc0_scratch2 : Memref Cert.KernelIdeal.sig Kind.scVector Space.vmem Cert.KernelIdeal.S512 EltTy.f32)
local notation "bV" => (Memref.whole Cert.KernelIdeal.cc0_scratch3 : Memref Cert.KernelIdeal.sig Kind.scVector Space.vmem Cert.KernelIdeal.S512 EltTy.f32)

section Tile
variable (d : Dev nD) (L : grid0.Coords) (w : S32x8x128.Idx → BitVec 32) (hw : ∀ j, (w j).toNat < 1000000)
variable [FloatOps F] [Named F]

theorem issue {α : Type} {Q : α → sProp 𝕄} (x : S1000000x16.Idx → F .f32) (f : S1024x16.Idx → F .f32) (n m : ℕ) (hn : n < 8) (hm : m = n + 1)
    {hsrc : (srcA).view.WordExact} {he : EltTy.bits .f32 = 32} {hsp : Space.hbm = .hbm ∨ Space.hbm = .shared} {hr : S1000000x16.StreamRows 0}
    {kk : PUnit → Prog (TpuEff nD τ sig (Elt F) Λ₀ (V d (cV L) (jV L)).2) α} :
    Issued d L w hw x f n
      ⊢ iprop((Issued d L w hw x f m -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (SparseCore.enqueueIndirectGather rfl srcA (dstB ⟨n, hn⟩) gathers_S1000000x16_S128x16 (offB ⟨n, hn⟩) offs_numel cc0_scratch4.sem hsrc he hsp hr >>= kk) Q) := by
  subst hm
  unfold Issued
  rw [pending_split (o := 1) (show n + 1 ≤ 8 from hn), bigSep_univ_of_subsingleton (0 : Fin 1)]
  iintro ⟨⟨Hb, Hrest⟩, HB⟩ Hk
  have hlt : ∀ i : Fin (S128x16.size gathers_S1000000x16_S128x16.axis'), 128 * n + i.val < 8 * 128 := fun i => by
    have : i.val < 128 := i.isLt
    omega
  have hD : ∀ i : Fin (S128x16.size gathers_S1000000x16_S128x16.axis'),
      rowDone (V d (cV L) (jV L)) srcA (dstB ⟨n, hn⟩) gathers_S1000000x16_S128x16 (offB ⟨n, hn⟩) offs_numel rows_pos
        (pieceOf (rq (wL L)) 8 (by decide) ⟨n, hn⟩) fullShare x f (listL L w) (listL_lt L w hw ⟨n, hn⟩) i
        ⊢ (rowsD d L w hw x f ⟨128 * n + i.val, hlt i⟩ : sProp 𝕄) :=
    fun i => Entails.of_eq (rowBI_member d L w hw x f n hn i)
  have h := wp_gatherBatch (F := F) (defs := defs₀ (F := F)) countersEmb 𝒱₀ (V d (cV L) (jV L)) none (src := srcA) (dst := dstB ⟨n, hn⟩) (hg := gathers_S1000000x16_S128x16)
    (offs := offB ⟨n, hn⟩) (hn := offs_numel) (sem := cc0_scratch4.sem) (hp := rfl) (hsrc := hsrc) (he := he) (hsp := hsp) (hr := hr) (k := kk) (Q := Q)
    rows_pos (default : HIx 1) 512 (row_credit ⟨n, hn⟩) (j := 128 * n) (u := 0) (n := 8 * 128)
    (show 128 * n + 128 ≤ 8 * 128 by omega) (Nat.zero_le _) (listL_lt L w hw ⟨n, hn⟩) (q := pieceOf (rq (wL L)) 8 (by decide) ⟨n, hn⟩) (qo := fullShare)
    (fs := x) (fd := f) (fo := listL L w) (D := rowsD d L w hw x f) hD
  rw [show 128 * n + S128x16.size gathers_S1000000x16_S128x16.axis' = 128 * (n + 1) by show 128 * n + 128 = _; omega] at h
  iapply h $$ [Hb HB]
  · unfold preB
    icases Hb with ⟨Hx, Hg, Hl⟩
    isplitl [Hx]; · iexact Hx
    isplitl [Hg]; · iexact Hg
    isplitl [Hl]; · iexact Hl
    iexact HB
  iintro HB
  iapply Hk
  isplitl [Hrest]; · iexact Hrest
  iexact HB

/-- The batch's last issue is its first wait's start. -/
theorem issued_waiting (x : S1000000x16.Idx → F .f32) (f : S1024x16.Idx → F .f32) (O : CellTallies nD τ sig (HIx 1)) (W W' : Waits sig (HIx 1))
    (hW : ∀ p ∈ W', p ∈ W ∨ p.2 = none) :
    iprop(Issued d L w hw x f 8 ∗ owes (V d (cV L) (jV L)) O W') ⊢ (Waiting d L w hw x f O W 0 : sProp 𝕄) := by
  unfold Issued Waiting
  iintro ⟨⟨-, HB⟩, HO⟩
  isplitl [HB]; · iexact HB
  iexists W'; isplitr; · ipureintro; exact hW
  iexact HO

theorem insert_none {W W' : Waits sig (HIx 1)} {s : SemLoc sig} (hW : ∀ p ∈ W', p ∈ W ∨ p.2 = none) :
    ∀ p ∈ insert (s, (none : HIx 1)) W', p ∈ W ∨ p.2 = none := fun p hp => by
  rcases Finset.mem_insert.mp hp with hp | hp
  · exact .inr (hp ▸ rfl)
  · exact hW p hp

theorem wait {α : Type} {Q : α → sProp 𝕄} (x : S1000000x16.Idx → F .f32) (f : S1024x16.Idx → F .f32) (O : CellTallies nD τ sig (HIx 1)) (W : Waits sig (HIx 1))
    (n m : ℕ) (hn : n < 8) (hm : m = n + 1)
    {hsrc : (srcA).view.WordExact} {hdst : (dstB ⟨n, hn⟩).view.WordExact}
    {kk : PUnit → Prog (TpuEff nD τ sig (Elt F) Λ₀ (V d (cV L) (jV L)).2) α} :
    iprop(Transfers.MayWaits (V d (cV L) (jV L)) (default : HIx 1) O ∗ Waiting d L w hw x f O W n)
      ⊢ iprop((Waiting d L w hw x f O W m -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (SparseCore.waitIndirectGather cc0_scratch4.sem srcA (dstB ⟨n, hn⟩) hsrc hdst >>= kk) Q) := by
  subst hm
  unfold Waiting
  iintro ⟨Hmw, ⟨HB, ⟨%W', %hW, HO⟩⟩⟩ Hk
  iapply (Transfers.wp_waitBatchMulO countersEmb 𝒱₀ (V d (cV L) (jV L)) none (default : HIx 1) (N := 512) 128 (dst_credit _) (D := rowsD d L w hw x f)
    (j := 8 * 128) (u := 65536 * n) (show 65536 * n + 128 * 512 ≤ 512 * (8 * 128) by omega)) $$ [HB HO Hmw]
  · isplitl [HB]; · iexact HB
    isplitl [HO]; · iexact HO
    iapply (Transfers.MayWaits.elim (SemLoc.dma cc0_scratch4.sem)) $$ Hmw
  iintro ⟨HB, HO⟩
  iapply Hk
  isplitl [HB]; · rw [show 65536 * (n + 1) = 65536 * n + 128 * 512 by omega]; iexact HB
  iexists _; isplitr
  swap; · iexact HO
  ipureintro; exact insert_none hW

/-- The last wait: every row has landed. -/
theorem waitLast {α : Type} {Q : α → sProp 𝕄} (x : S1000000x16.Idx → F .f32) (f : S1024x16.Idx → F .f32) (O : CellTallies nD τ sig (HIx 1)) (W : Waits sig (HIx 1))
    {hsrc : (srcA).view.WordExact} {hdst : (dstB ⟨7, by decide⟩).view.WordExact}
    {kk : PUnit → Prog (TpuEff nD τ sig (Elt F) Λ₀ (V d (cV L) (jV L)).2) α} :
    iprop(Transfers.MayWaits (V d (cV L) (jV L)) (default : HIx 1) O ∗ Waiting d L w hw x f O W 7)
      ⊢ iprop((iprop(bigSep Finset.univ (rowsD d L w hw x f) ∗ semVal (V d (cV L) (jV L), .dma cc0_scratch4.sem) 0
            ∗ ∃ W', ⌜∀ p ∈ W', p ∈ W ∨ p.2 = none⌝ ∗ owes (V d (cV L) (jV L)) O W')
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (SparseCore.waitIndirectGather cc0_scratch4.sem srcA (dstB ⟨7, by decide⟩) hsrc hdst >>= kk) Q) := by
  unfold Waiting
  iintro ⟨Hmw, ⟨HB, ⟨%W', %hW, HO⟩⟩⟩ Hk
  iapply (Transfers.wp_waitBatchAllO countersEmb 𝒱₀ (V d (cV L) (jV L)) none (default : HIx 1) (N := 512) (J := 65536) (dst_credit _) (by decide) (D := rowsD d L w hw x f)
    (u := 65536 * 7) (by decide)) $$ [HB HO Hmw]
  · isplitl [HB]; · iexact HB
    isplitl [HO]; · iexact HO
    iapply (Transfers.MayWaits.elim (SemLoc.dma cc0_scratch4.sem)) $$ Hmw
  iintro ⟨HD, Hs, HO⟩
  iapply Hk
  isplitl [HD]; · iexact HD
  isplitl [Hs]; · iexact Hs
  iexists _; isplitr
  swap; · iexact HO
  ipureintro; exact insert_none hW

/-- The rows landed are the gathered buffer, the share of the table and the list. -/
theorem landed (x : S1000000x16.Idx → F .f32) (f : S1024x16.Idx → F .f32) :
    bigSep Finset.univ (rowsD d L w hw x f)
      ⊢ (iprop((xLoc d ↦{rq (wL L)} x) ∗ ((V d (cV L) (jV L)).loc cc0_scratch1 ↦{fullShare} gath L w x)
          ∗ ((V d (cV L) (jV L)).loc cc0_scratch0 ↦{fullShare} listL L w)) : sProp 𝕄) := by
  rw [xPts_pieces d L, gPts_blocks d L, lPts_rows d L, ← bigSep_sep', ← bigSep_sep', bigSep_groups]
  refine bigSep_mono fun b _ => ?_
  rw [show (bigSep Finset.univ fun i : Fin 128 => rowsD d L w hw x f (finProdFinEquiv (b, i))) = bigSep Finset.univ (rowBI d L w hw x f b) from
    bigSep_congr fun i _ => rowsD_pair d L w hw x f b i]
  refine (rowDone_join (V d (cV L) (jV L)) srcA (dstB b) gathers_S1000000x16_S128x16 (offB b) offs_numel rows_pos _ _ _ _ _ _).trans ?_
  unfold gatherDone
  iintro ⟨Hg, Hx, Hl⟩
  isplitl [Hx]; · iexact Hx
  isplitl [Hg]
  · iapply (Entails.of_eq (pointsTo_congr (gath_block L w hw x f b))) $$ Hg
  · iexact Hl

end Tile

end Cert.Proof.RunIdeal

end
-- ==== Proof.RunIdeal.Trip.lean ====
/-
  ONE TRIP of a tile's loop: sixteen pairs. Lane `x` of trip `k` works on pair `16 k + x` of the tile, whose rows lie at
  `2 (16 k + x)` and the place after it in the gathered buffer. The trip reads both rows column by column, keeps the two sums, and stores the
  sixteen lanes' results.
-/
module

public import proofs.«01_k».proof.Proof.RunIdeal.Setup

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Values

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x8x128 EltTy.i32)
local notation "xV" => (Memref.whole Cert.KernelIdeal.main_arg2_scv : Memref Cert.KernelIdeal.sig Kind.scVector Space.hbm Cert.KernelIdeal.S1000000x16 EltTy.f32)
local notation "sV" => (Memref.whole Cert.KernelIdeal.main_v1_0_scv : Memref Cert.KernelIdeal.sig Kind.scVector Space.hbm Cert.KernelIdeal.S16384 EltTy.f32)
local notation "tV" => (Memref.whole Cert.KernelIdeal.main_v1_1_scv : Memref Cert.KernelIdeal.sig Kind.scVector Space.hbm Cert.KernelIdeal.S16384 EltTy.f32)
local notation "lV" => (Memref.whole Cert.KernelIdeal.cc0_scratch0 : Memref Cert.KernelIdeal.sig Kind.scVector Space.vmem Cert.KernelIdeal.S8x128 EltTy.i32)
local notation "gV" => (Memref.whole Cert.KernelIdeal.cc0_scratch1 : Memref Cert.KernelIdeal.sig Kind.scVector Space.vmem Cert.KernelIdeal.S1024x16 EltTy.f32)
local notation "aV" => (Memref.whole Cert.KernelIdeal.cc0_scratch2 : Memref Cert.KernelIdeal.sig Kind.scVector Space.vmem Cert.KernelIdeal.S512 EltTy.f32)
local notation "bV" => (Memref.whole Cert.KernelIdeal.cc0_scratch3 : Memref Cert.KernelIdeal.sig Kind.scVector Space.vmem Cert.KernelIdeal.S512 EltTy.f32)

/-! ## The lanes' rows -/

theorem trips_eq : k0_t1_loop.trips = 32 := by decide +kernel

/-- The vectors of row numbers the trip computes. -/
abbrev rowsU (k : Fin k0_t1_loop.trips) : IVec S16 32 := k0_pay3 0#32 1#32 k
abbrev rowsV (k : Fin k0_t1_loop.trips) : IVec S16 32 := k0_pay4 (rowsU k)

theorem rowsU_toNat : ∀ (k : Fin k0_t1_loop.trips) (x : S16.Idx), (rowsU k x).toNat = 2 * (16 * k.val + (x 0).val) := by
  decide +kernel
theorem rowsV_toNat : ∀ (k : Fin k0_t1_loop.trips) (x : S16.Idx), (rowsV k x).toNat = 2 * (16 * k.val + (x 0).val) + 1 := by
  decide +kernel

theorem lane_lt (k : Fin k0_t1_loop.trips) (x : S16.Idx) : 16 * k.val + (x 0).val < 512 := by
  have h1 := lt_of_lt_of_eq k.isLt trips_eq
  have h2 := (x 0).isLt; simp only [Matrix.cons_val_zero] at h2
  omega

/-- Both vectors of row numbers, with any column, name places of the gathered buffer. -/
theorem inbU (k : Fin k0_t1_loop.trips) (c : BitVec 32) (hc : c.toNat < 16) :
    ∀ a x, ((![rowsU k, broadcast S16 c] : Fin 2 → IVec S16 32) a x).toNat < S1024x16.size a := by
  intro a x
  match a with
  | 0 => show (rowsU k x).toNat < 1024; rw [rowsU_toNat]; have := lane_lt k x; omega
  | 1 => exact hc
theorem inbV (k : Fin k0_t1_loop.trips) (c : BitVec 32) (hc : c.toNat < 16) :
    ∀ a x, ((![rowsV k, broadcast S16 c] : Fin 2 → IVec S16 32) a x).toNat < S1024x16.size a := by
  intro a x
  match a with
  | 0 => show (rowsV k x).toNat < 1024; rw [rowsV_toNat]; have := lane_lt k x; omega
  | 1 => exact hc

/-- Row `r` of the gathered buffer. -/
def rowG (g : S1024x16.Idx → F .f32) (r : ℕ) (j : Fin 16) : F .f32 := g (ix2 ⟨r % 1024, Nat.mod_lt _ (by decide)⟩ j)

/-- What a column's load through the first row numbers reads, lane by lane; -/
theorem loadU (g : S1024x16.Idx → F .f32) (k : Fin k0_t1_loop.trips) (c : BitVec 32) (hc : c.toNat < 16) (x : S16.Idx) :
    (loadIdx (F := F) (e := .f32) g ![rowsU k, broadcast S16 c] (inbU k c hc)) x = rowG g (2 * (16 * k.val + (x 0).val)) ⟨c.toNat, hc⟩ := by
  show g _ = g _
  congr 1; funext a
  have h := lane_lt k x
  match a with
  | 0 => exact Fin.ext (by show (rowsU k x).toNat = _ % 1024; rw [rowsU_toNat, Nat.mod_eq_of_lt (by omega)])
  | 1 => rfl
/-- and through the second. -/
theorem loadV (g : S1024x16.Idx → F .f32) (k : Fin k0_t1_loop.trips) (c : BitVec 32) (hc : c.toNat < 16) (x : S16.Idx) :
    (loadIdx (F := F) (e := .f32) g ![rowsV k, broadcast S16 c] (inbV k c hc)) x = rowG g (2 * (16 * k.val + (x 0).val) + 1) ⟨c.toNat, hc⟩ := by
  show g _ = g _
  congr 1; funext a
  have h := lane_lt k x
  match a with
  | 0 => exact Fin.ext (by show (rowsV k x).toNat = _ % 1024; rw [rowsV_toNat, Nat.mod_eq_of_lt (by omega)])
  | 1 => rfl

variable [FloatOps F] [Named F]

/-- The sixteen columns loaded, as the trip's two payloads take them. -/
abbrev colU (g : S1024x16.Idx → F .f32) (k : Fin k0_t1_loop.trips) (c : BitVec 32) (hc : c.toNat < 16) : Vec F S16 .f32 :=
  loadIdx (F := F) (e := .f32) g ![rowsU k, broadcast S16 c] (inbU k c hc)
abbrev colV (g : S1024x16.Idx → F .f32) (k : Fin k0_t1_loop.trips) (c : BitVec 32) (hc : c.toNat < 16) : Vec F S16 .f32 :=
  loadIdx (F := F) (e := .f32) g ![rowsV k, broadcast S16 c] (inbV k c hc)

section Sums
variable (u v : (c : BitVec 32) → c.toNat < 16 → Vec F S16 .f32)

/-- The trip's two payloads of the sixteen columns. -/
abbrev payS : FVec F S16 .f32 :=
  k0_pay1 (k0_pay9 (k0_pay7 (k0_pay5 (u 0#32 (by decide)) (v 0#32 (by decide)) (u 1#32 (by decide)) (v 1#32 (by decide)) (u 2#32 (by decide)) (v 2#32 (by decide)))
      (u 3#32 (by decide)) (v 3#32 (by decide)) (u 4#32 (by decide)) (v 4#32 (by decide)) (u 5#32 (by decide)) (v 5#32 (by decide))
      (u 6#32 (by decide)) (v 6#32 (by decide)) (u 7#32 (by decide)) (v 7#32 (by decide)))
    (u 8#32 (by decide)) (v 8#32 (by decide)) (u 9#32 (by decide)) (v 9#32 (by decide)) (u 10#32 (by decide)) (v 10#32 (by decide))
    (u 11#32 (by decide)) (v 11#32 (by decide)) (u 12#32 (by decide)) (v 12#32 (by decide)))
    (u 13#32 (by decide)) (v 13#32 (by decide)) (u 14#32 (by decide)) (v 14#32 (by decide)) (u 15#32 (by decide)) (v 15#32 (by decide))
abbrev payT : FVec F S16 .f32 :=
  k0_pay2 (k0_pay10 (k0_pay8 (k0_pay6 (u 0#32 (by decide)) (v 0#32 (by decide)) (u 1#32 (by decide)) (v 1#32 (by decide)) (u 2#32 (by decide)) (v 2#32 (by decide)))
      (u 3#32 (by decide)) (v 3#32 (by decide)) (u 4#32 (by decide)) (v 4#32 (by decide)) (u 5#32 (by decide)) (v 5#32 (by decide))
      (u 6#32 (by decide)) (v 6#32 (by decide)) (u 7#32 (by decide)) (v 7#32 (by decide)))
    (u 8#32 (by decide)) (v 8#32 (by decide)) (u 9#32 (by decide)) (v 9#32 (by decide)) (u 10#32 (by decide)) (v 10#32 (by decide))
    (u 11#32 (by decide)) (v 11#32 (by decide)) (u 12#32 (by decide)) (v 12#32 (by decide)))
    (u 13#32 (by decide)) (v 13#32 (by decide)) (u 14#32 (by decide)) (v 14#32 (by decide)) (u 15#32 (by decide)) (v 15#32 (by decide))

theorem col_lt (j : Fin 16) : (BitVec.ofNat 32 j.val).toNat < 16 := by revert j; decide

theorem payS_apply (x : S16.Idx) :
    payS u v x = sVal (fun j => u (BitVec.ofNat 32 j.val) (col_lt j) x) (fun j => v (BitVec.ofNat 32 j.val) (col_lt j) x) := rfl
theorem payT_apply (x : S16.Idx) :
    payT u v x = tVal (fun j => u (BitVec.ofNat 32 j.val) (col_lt j) x) (fun j => v (BitVec.ofNat 32 j.val) (col_lt j) x) := rfl

end Sums

theorem ofNat_fin (j : Fin 16) (h : (BitVec.ofNat 32 j.val).toNat < 16) : (⟨(BitVec.ofNat 32 j.val).toNat, h⟩ : Fin 16) = j := by
  revert h; revert j; decide

/-- Lane `x` of trip `k` holds its pair's two sums. -/
theorem payS_lane (g : S1024x16.Idx → F .f32) (k : Fin k0_t1_loop.trips) (x : S16.Idx) :
    payS (colU g k) (colV g k) x = sVal (rowG g (2 * (16 * k.val + (x 0).val))) (rowG g (2 * (16 * k.val + (x 0).val) + 1)) := by
  rw [payS_apply]
  congr 1 <;> funext j
  · exact (loadU g k _ (col_lt j) x).trans (by rw [ofNat_fin])
  · exact (loadV g k _ (col_lt j) x).trans (by rw [ofNat_fin])
theorem payT_lane (g : S1024x16.Idx → F .f32) (k : Fin k0_t1_loop.trips) (x : S16.Idx) :
    payT (colU g k) (colV g k) x = tVal (rowG g (2 * (16 * k.val + (x 0).val))) (rowG g (2 * (16 * k.val + (x 0).val) + 1)) := by
  rw [payT_apply]
  congr 1 <;> funext j
  · exact (loadU g k _ (col_lt j) x).trans (by rw [ofNat_fin])
  · exact (loadV g k _ (col_lt j) x).trans (by rw [ofNat_fin])

/-! ## What the loop keeps -/

/-- The pairs below `16 n` are done. -/
def Done (g : S1024x16.Idx → F .f32) (n : ℕ) (fa fb : S512.Idx → F .f32) : Prop :=
  ∀ p : S512.Idx, (p 0).val < 16 * n →
    fa p = sVal (rowG g (2 * (p 0).val)) (rowG g (2 * (p 0).val + 1)) ∧ fb p = tVal (rowG g (2 * (p 0).val)) (rowG g (2 * (p 0).val + 1))

/-- The sixteen places trip `k` stores. -/
abbrev rT (k : Fin k0_t1_loop.trips) : Rect S512 := Rect.unit (s := S512) (k0_off2 k) S16.size (k0_off2_inb k)

theorem rT_emb (k : Fin k0_t1_loop.trips) (x : S16.Idx) : (((rT k).emb x) 0).val = 16 * k.val + (x 0).val := by
  show (k0_off2 k) 0 + 1 * (x 0).val = _
  rw [k0_off2_eq]; simp

theorem mem_rT (k : Fin k0_t1_loop.trips) (p : S512.Idx) (h0 : 16 * k.val ≤ (p 0).val) (h1 : (p 0).val < 16 * (k.val + 1)) :
    ∃ x : S16.Idx, (rT k).emb x = p := by
  refine ⟨fun | 0 => ⟨(p 0).val - 16 * k.val, by show _ < 16; omega⟩, ?_⟩
  funext a; obtain rfl : a = 0 := Subsingleton.elim _ _
  apply Fin.ext; rw [rT_emb]; show 16 * k.val + ((p 0).val - 16 * k.val) = _; omega

/-- A store of the trip's lanes into a whole scratch leaves them at the trip's places and the rest as it was. -/
theorem writeA_emb (k : Fin k0_t1_loop.trips) (f : S512.Idx → F .f32) (w : S16.Idx → F .f32) (x : S16.Idx) :
    ((aV).access (rT k)).write (Elt F) f w Finset.univ ((rT k).emb x) = w x :=
  View.write_emb_of_mem (v := (aV).access (rT k)) (Val := Elt F) f w (x := x) (Finset.mem_univ _)
theorem writeB_emb (k : Fin k0_t1_loop.trips) (f : S512.Idx → F .f32) (w : S16.Idx → F .f32) (x : S16.Idx) :
    ((bV).access (rT k)).write (Elt F) f w Finset.univ ((rT k).emb x) = w x :=
  View.write_emb_of_mem (v := (bV).access (rT k)) (Val := Elt F) f w (x := x) (Finset.mem_univ _)
theorem writeA_before (k : Fin k0_t1_loop.trips) (f : S512.Idx → F .f32) (w : S16.Idx → F .f32) (p : S512.Idx) (hp : (p 0).val < 16 * k.val) :
    ((aV).access (rT k)).write (Elt F) f w Finset.univ p = f p :=
  View.write_of_not_mem (v := (aV).access (rT k)) (Val := Elt F) f w _ fun h => by
    obtain ⟨x, -, hx⟩ := Finset.mem_map.mp h
    have := rT_emb k x
    rw [show (rT k).emb x = p from hx] at this; omega
theorem writeB_before (k : Fin k0_t1_loop.trips) (f : S512.Idx → F .f32) (w : S16.Idx → F .f32) (p : S512.Idx) (hp : (p 0).val < 16 * k.val) :
    ((bV).access (rT k)).write (Elt F) f w Finset.univ p = f p :=
  View.write_of_not_mem (v := (bV).access (rT k)) (Val := Elt F) f w _ fun h => by
    obtain ⟨x, -, hx⟩ := Finset.mem_map.mp h
    have := rT_emb k x
    rw [show (rT k).emb x = p from hx] at this; omega

theorem Done.step {g : S1024x16.Idx → F .f32} {k : Fin k0_t1_loop.trips} {fa fb : S512.Idx → F .f32} (h : Done g k.val fa fb) :
    Done g (k.val + 1) (((aV).access (rT k)).write (Elt F) fa (payS (colU g k) (colV g k)) Finset.univ)
      (((bV).access (rT k)).write (Elt F) fb (payT (colU g k) (colV g k)) Finset.univ) := by
  intro p hp
  by_cases h0 : (p 0).val < 16 * k.val
  · rw [writeA_before k _ _ p h0, writeB_before k _ _ p h0]; exact h p h0
  · obtain ⟨x, rfl⟩ := mem_rT k p (by omega) hp
    rw [writeA_emb, writeB_emb, payS_lane, payT_lane, rT_emb]
    exact ⟨rfl, rfl⟩

section Tile
variable (d : Dev nD) (L : grid0.Coords)

theorem read_gV (g : S1024x16.Idx → F .f32) : ((gV).access (.whole cc0_scratch1.ty.shape)).read (Elt F) g = g := by
  funext x
  rw [View.read_apply]
  show g _ = g x
  congr 1; funext a; apply Fin.ext
  show 0 + 1 * (x a).val = _; omega

/-- A column's load: the gathered buffer is held, and the program goes on with what its lanes name. -/
theorem wp_col {α : Type} {Q : α → sProp 𝕄} (g : S1024x16.Idx → F .f32) {idxs : Fin S1024x16.rank → IVec S16 32} {h : ∀ a x, (idxs a x).toNat < S1024x16.size a}
    {hl : (gV).view.Loads} {kk : Vec F S16 .f32 → Prog (TpuEff nD τ sig (Elt F) Λ₀ (V d (cV L) (jV L)).2) α} :
    ((V d (cV L) (jV L)).loc cc0_scratch1 ↦{fullShare} g : sProp 𝕄)
      ⊢ iprop((((V d (cV L) (jV L)).loc cc0_scratch1 ↦{fullShare} g)
          -∗ wp frame (wpE (defs₀ (F := F)) 𝒱₀ (V d (cV L) (jV L)) none) Set.univ (kk (loadIdx g idxs h)) Q)
        -∗ wp frame (wpE (defs₀ (F := F)) 𝒱₀ (V d (cV L) (jV L)) none) Set.univ (SparseCore.vectorLoadIdx gV idxs h hl >>= kk) Q) := by
  have := SparseCore.wp_vectorLoadIdx (defs := defs₀ (F := F)) 𝒱₀ (V d (cV L) (jV L)) none Set.univ (base := gV) (idxs := idxs) (h := h) (hl := hl) (k := kk) (Q := Q)
    (S := Finset.univ) (q := fullShare) (f := g) (Finset.subset_univ _)
  rw [show ((gV).access (.whole cc0_scratch1.ty.shape)).read (Elt F) g = g from read_gV g] at this
  exact this

/-- What the loop keeps before trip `n`: the gathered buffer, and the two scratches with the pairs below `16 n` done. -/
def LoopInv (g : S1024x16.Idx → F .f32) (n : ℕ) (_ : BitVec 32) : sProp 𝕄 :=
  iprop(((V d (cV L) (jV L)).loc cc0_scratch1 ↦{fullShare} g)
    ∗ ∃ fa fb, ⌜Done g n fa fb⌝ ∗ ((V d (cV L) (jV L)).loc cc0_scratch2 ↦{fullShare} fa) ∗ ((V d (cV L) (jV L)).loc cc0_scratch3 ↦{fullShare} fb))

set_option maxHeartbeats 4000000 in
theorem trip (g : S1024x16.Idx → F .f32) (k : Fin k0_t1_loop.trips) (acc : BitVec 32) :
    LoopInv (F := F) d L g k.val acc
      ⊢ wp frame (wpE (defs₀ (F := F)) 𝒱₀ (V d (cV L) (jV L)) none) Set.univ
          (k0_t1_body L iV (Memref.isWhole_whole _) xV (Memref.isWhole_whole _) sV (Memref.isWhole_whole _) tV (Memref.isWhole_whole _)
            lV (Memref.isWhole_whole _) gV (Memref.isWhole_whole _) aV (Memref.isWhole_whole _) bV (Memref.isWhole_whole _)
            cc0_scratch4 cc0_scoped0 cc0_scoped1 cc0_scoped2 k acc)
          (LoopInv (F := F) d L g (k.val + 1)) := by
  unfold k0_t1_body
  simp only [k0_part1_eq_skeleton, k0_part2_eq_skeleton, k0_part3_eq_skeleton]
  unfold k0_part1_skel k0_part2_skel k0_part3_skel
  simp only [Prog.lift, Prog.bind_op, Prog.bind_ret, Prog.pure_eq_ret, bind_assoc]
  unfold LoopInv
  iintro ⟨Hg, ⟨%fa, %fb, %hd, Ha, Hb⟩⟩
  rw [wp_assume_of _ _ _ _ (show k0_chk1 (rowsU k) (rowsV k) (broadcast S16 0#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk2 (rowsU k) (rowsV k) (broadcast S16 1#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk3 (rowsU k) (rowsV k) (broadcast S16 2#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk4 (rowsU k) (rowsV k) (broadcast S16 3#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk5 (rowsU k) (rowsV k) (broadcast S16 4#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk6 (rowsU k) (rowsV k) (broadcast S16 5#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk7 (rowsU k) (rowsV k) (broadcast S16 6#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk8 (rowsU k) (rowsV k) (broadcast S16 7#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk9 (rowsU k) (rowsV k) (broadcast S16 8#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk10 (rowsU k) (rowsV k) (broadcast S16 9#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk11 (rowsU k) (rowsV k) (broadcast S16 10#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk12 (rowsU k) (rowsV k) (broadcast S16 11#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk13 (rowsU k) (rowsV k) (broadcast S16 12#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk14 (rowsU k) (rowsV k) (broadcast S16 13#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk15 (rowsU k) (rowsV k) (broadcast S16 14#32) from ⟨inbU k _ (by decide), inbV k _ (by decide)⟩)]
  iapply (wp_col (F := F) d L g) $$ Hg; iintro Hg
  iapply (wp_col (F := F) d L g) $$ Hg; iintro Hg
  rw [wp_assume_of _ _ _ _ (show k0_chk16 (rowsU k) (rowsV k) (broadcast S16 15#32) from ⟨inbU k _ (by decide), inbV k _ (by decide)⟩)]
  iapply (wp_col (F := F) d L g) $$ Hg; iintro Hg
  iapply (wp_col (F := F) d L g) $$ Hg; iintro Hg
  iapply (wp_load 𝒱₀ (V d (cV L) (jV L)) none Set.univ (m := aV) (S := Finset.univ) (Finset.subset_univ _)) $$ Ha; iintro Ha
  iapply (wp_store 𝒱₀ (V d (cV L) (jV L)) none Set.univ (m := aV) (r := rT k) (Mk := Finset.univ) (S := Finset.univ) (Finset.subset_univ _)) $$ Ha; iintro Ha
  iapply (wp_load 𝒱₀ (V d (cV L) (jV L)) none Set.univ (m := bV) (S := Finset.univ) (Finset.subset_univ _)) $$ Hb; iintro Hb
  iapply (wp_store 𝒱₀ (V d (cV L) (jV L)) none Set.univ (m := bV) (r := rT k) (Mk := Finset.univ) (S := Finset.univ) (Finset.subset_univ _)) $$ Hb; iintro Hb
  rw [wp_ret]; imodintro
  isplitl [Hg]; · iexact Hg
  iexists _, _
  isplitr; · ipureintro; exact Done.step hd
  isplitl [Ha]; · iexact Ha
  iexact Hb
end Tile

end Cert.Proof.RunIdeal

end
-- ==== Proof.RunIdeal.Tile.lean ====
/-
  A TILE. It fetches its list of words, streams the rows they name into the gathered buffer in eight batches of 128 rows, computes its 512 pairs'
  sums sixteen at a time, and writes both vectors of sums out to its part of the two outputs.
-/
module

public import proofs.«01_k».proof.Proof.RunIdeal.Batch
public import proofs.«01_k».proof.Proof.RunIdeal.Trip

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Values Cert.Proof.Gathers

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x8x128 EltTy.i32)
local notation "xV" => (Memref.whole Cert.KernelIdeal.main_arg2_scv : Memref Cert.KernelIdeal.sig Kind.scVector Space.hbm Cert.KernelIdeal.S1000000x16 EltTy.f32)
local notation "sV" => (Memref.whole Cert.KernelIdeal.main_v1_0_scv : Memref Cert.KernelIdeal.sig Kind.scVector Space.hbm Cert.KernelIdeal.S16384 EltTy.f32)
local notation "tV" => (Memref.whole Cert.KernelIdeal.main_v1_1_scv : Memref Cert.KernelIdeal.sig Kind.scVector Space.hbm Cert.KernelIdeal.S16384 EltTy.f32)
local notation "lV" => (Memref.whole Cert.KernelIdeal.cc0_scratch0 : Memref Cert.KernelIdeal.sig Kind.scVector Space.vmem Cert.KernelIdeal.S8x128 EltTy.i32)
local notation "gV" => (Memref.whole Cert.KernelIdeal.cc0_scratch1 : Memref Cert.KernelIdeal.sig Kind.scVector Space.vmem Cert.KernelIdeal.S1024x16 EltTy.f32)
local notation "aV" => (Memref.whole Cert.KernelIdeal.cc0_scratch2 : Memref Cert.KernelIdeal.sig Kind.scVector Space.vmem Cert.KernelIdeal.S512 EltTy.f32)
local notation "bV" => (Memref.whole Cert.KernelIdeal.cc0_scratch3 : Memref Cert.KernelIdeal.sig Kind.scVector Space.vmem Cert.KernelIdeal.S512 EltTy.f32)

section Tile
variable (d : Dev nD) (L : grid0.Coords)

/-! ## The parts of the outputs the tile writes -/

abbrev oRectK (L : grid0.Coords) : Rect S16384 := Rect.unit (s := S16384) (k0_off3 L) S512.size (k0_off3_inb L)
abbrev sK (L : grid0.Coords) : Memref sig .scVector .hbm S512 .f32 := (sV).slice (oRectK L) (fun _ => rfl)
abbrev tK (L : grid0.Coords) : Memref sig .scVector .hbm S512 .f32 := (tV).slice (oRectK L) (fun _ => rfl)

theorem oRectK_eq : oRectK L = oRect (wL L) := by
  unfold oRectK oRect Rect.part Rect.block
  congr 1 <;> funext a
  · rw [k0_off3_eq]
    match a with
    | 0 =>
      have := wL_val L
      simp only [Shape.partIx, Shape.partSize, Matrix.cons_val_zero, ↓reduceIte, this]
      show _ = (2 * (L 1).val + (L 0).val) * (16384 / 32)
      omega
  · match a with
    | 0 => simp [Shape.partSize]
theorem set_sK : (sK L).view.set = oSet (wL L) := by
  show ((sV).view.slice (oRectK L)).set = ((sV).view.slice (oRect (wL L))).set
  exact oRectK_eq L ▸ rfl
theorem set_tK : (tK L).view.set = oSet (wL L) := set_sK L

theorem oK_emb (p : S512.Idx) : (((sK L).view.emb p) 0).val = 512 * (wL L).val + (p 0).val := by
  have e : (((sK L).view.emb p) 0).val = k0_off3 L 0 + 1 * (p 0).val := rfl
  rw [e, k0_off3_eq, wL_val]
  simp only [Matrix.cons_val_zero]
  omega

variable [FloatOps F] [Named F] (w : S32x8x128.Idx → BitVec 32)

theorem rowG_gath (x : S1000000x16.Idx → F .f32) (n : ℕ) (hn : n < 1024) :
    rowG (gath L w x) n = rowT x (wordAt w ⟨1024 * (wL L).val + n, word_lt L n hn⟩) := by
  funext j
  unfold rowG gath
  show rowT x (wordAt w ⟨1024 * (wL L).val + n % 1024, _⟩) j = _
  simp only [Nat.mod_eq_of_lt hn]

/-- The scratches, all pairs done, hold the tile's part of the two outputs. -/
theorem out_vals (x : S1000000x16.Idx → F .f32) {fa fb : S512.Idx → F .f32} (hd : Done (gath L w x) 32 fa fb) (p : S512.Idx) :
    fa p = sOut x w ((sK L).view.emb p) ∧ fb p = tOut x w ((sK L).view.emb p) := by
  have hp : (p 0).val < 512 := (p 0).isLt
  have e := oK_emb L p
  obtain ⟨h1, h2⟩ := hd p (by omega)
  rw [h1, h2, rowG_gath L w x _ (show 2 * (p 0).val < 1024 by omega), rowG_gath L w x _ (show 2 * (p 0).val + 1 < 1024 by omega)]
  unfold sOut tOut
  have a0 : 1024 * (wL L).val + 2 * (p 0).val = 2 * (((sK L).view.emb p) 0).val := by rw [e]; omega
  have a1 : 1024 * (wL L).val + (2 * (p 0).val + 1) = 2 * (((sK L).view.emb p) 0).val + 1 := by rw [e]; omega
  simp only [a0, a1, and_self]

theorem out_s (x : S1000000x16.Idx → F .f32) {fa fb : S512.Idx → F .f32} (hd : Done (gath L w x) 32 fa fb) (f : S16384.Idx → F .f32) :
    ∀ p ∈ (sK L).view.set, (sK L).view.write (Elt F) f fa Finset.univ p = sOut x w p := by
  intro p hp
  obtain ⟨y, -, rfl⟩ := Finset.mem_map.mp hp
  exact (View.write_emb_of_mem (v := (sK L).view) (Val := Elt F) f _ (Finset.mem_univ y)).trans ((cast_eq _ _).trans (out_vals L w x hd y).1)
theorem out_t (x : S1000000x16.Idx → F .f32) {fa fb : S512.Idx → F .f32} (hd : Done (gath L w x) 32 fa fb) (f : S16384.Idx → F .f32) :
    ∀ p ∈ (tK L).view.set, (tK L).view.write (Elt F) f fb Finset.univ p = tOut x w p := by
  intro p hp
  obtain ⟨y, -, rfl⟩ := Finset.mem_map.mp hp
  exact (View.write_emb_of_mem (v := (tK L).view) (Val := Elt F) f _ (Finset.mem_univ y)).trans ((cast_eq _ _).trans (out_vals L w x hd y).2)

/-! ## The subcore's own cells and buffers -/

abbrev c0cell (d : Dev nD) (c : Fin τ.nSC) (i : Fin τ.nSub) : GSem nD τ sig := (V d c i, .dma cc0_scratch4.sem)
abbrev c1cell (d : Dev nD) (c : Fin τ.nSC) (i : Fin τ.nSub) : GSem nD τ sig := (V d c i, .dma cc0_scoped0.sem)
abbrev c2cell (d : Dev nD) (c : Fin τ.nSC) (i : Fin τ.nSub) : GSem nD τ sig := (V d c i, .dma cc0_scoped1.sem)
abbrev c3cell (d : Dev nD) (c : Fin τ.nSC) (i : Fin τ.nSub) : GSem nD τ sig := (V d c i, .dma cc0_scoped2.sem)

/-- The four semaphores of the task are among the subcore's own. -/
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0 ∗ semVal (c3cell d (cV L) (jV L)) 0
          ∗ bigSep (((((ownCells (V d (cV L) (jV L))).erase (c0cell d (cV L) (jV L))).erase (c1cell d (cV L) (jV L))).erase (c2cell d (cV L) (jV L))).erase
              (c3cell d (cV L) (jV L))) fun g => semVal g 0) := by
  have hm : ∀ s : SemLoc sig, s.isScoped .scVector = true → (V d (cV L) (jV L), s) ∈ ownCells (V d (cV L) (jV L)) := fun s hs => mem_ownCells.mpr ⟨rfl, hs⟩
  have hne : ∀ s s' : SemLoc sig, s ≠ s' → ((V d (cV L) (jV L), s) : GSem nD τ sig) ≠ (V d (cV L) (jV L), s') := fun s s' h e => h (congrArg Prod.snd e)
  unfold SparseCore.Cfg.ownSems0
  rw [SparseCore.bigSep_erase' (hm (.dma cc0_scratch4.sem) (by decide)),
    SparseCore.bigSep_erase' (Finset.mem_erase.mpr ⟨hne (.dma cc0_scoped0.sem) (.dma cc0_scratch4.sem) (by decide), hm (.dma cc0_scoped0.sem) (by decide)⟩),
    SparseCore.bigSep_erase' (Finset.mem_erase.mpr ⟨hne (.dma cc0_scoped1.sem) (.dma cc0_scoped0.sem) (by decide),
      Finset.mem_erase.mpr ⟨hne (.dma cc0_scoped1.sem) (.dma cc0_scratch4.sem) (by decide), hm (.dma cc0_scoped1.sem) (by decide)⟩⟩),
    SparseCore.bigSep_erase' (Finset.mem_erase.mpr ⟨hne (.dma cc0_scoped2.sem) (.dma cc0_scoped1.sem) (by decide),
      Finset.mem_erase.mpr ⟨hne (.dma cc0_scoped2.sem) (.dma cc0_scoped0.sem) (by decide),
        Finset.mem_erase.mpr ⟨hne (.dma cc0_scoped2.sem) (.dma cc0_scratch4.sem) (by decide), hm (.dma cc0_scoped2.sem) (by decide)⟩⟩⟩)]

/-- The four scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have hm : ∀ b : Ref sig .scVector, ((Proc.scVector (cV L) (jV L)).devRef b).owner = .proc (.scVector (cV L) (jV L)) →
      (Proc.scVector (cV L) (jV L)).devRef b ∈ ownRefs (τ := τ) (.scVector (cV L) (jV L)) := fun b h => SparseCore.Cfg.mem_ownRefs_of_owner h
  have hne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide),
      Finset.mem_erase.mpr ⟨hne cc0_scratch2 cc0_scratch0 (by decide), hm cc0_scratch2 rfl⟩⟩),
    SparseCore.bigSep_erase' (Finset.mem_erase.mpr ⟨hne cc0_scratch3 cc0_scratch2 (by decide),
      Finset.mem_erase.mpr ⟨hne cc0_scratch3 cc0_scratch1 (by decide), Finset.mem_erase.mpr ⟨hne cc0_scratch3 cc0_scratch0 (by decide), hm cc0_scratch3 rfl⟩⟩⟩)]

/-! ## The copies -/

variable (hw : ∀ j, (w j).toNat < 1000000)

/-- The index fetch issued, its transfer under way. -/
theorem fetch_start {α : Type} {Q : α → sProp 𝕄} (q : PosShare TreeShare) (f : S8x128.Idx → BitVec 32)
    {hsrc : (iRowK L).view.WordExact} {hdst : (lV).view.WordExact} {hsem : DmaTarget.Typed (nD := nD) (p := (V d (cV L) (jV L)).2) Space.hbm (.dma cc0_scoped0.sem) (.here lV)}
    {kk : PUnit → Prog (TpuEff nD τ sig (Elt F) Λ₀ (V d (cV L) (jV L)).2) α} :
    iprop((iLoc d ↦[(iRowK L).view.set]{q} w) ∗ ((V d (cV L) (jV L)).loc cc0_scratch0 ↦{fullShare} f) ∗ semVal (c1cell d (cV L) (jV L)) 0)
      ⊢ iprop((Transfers.Flight countersEmb (V d (cV L) (jV L)) (.dma cc0_scoped0.sem) (default : HIx 1) (lV).view.dmaCredit
            iprop(((V d (cV L) (jV L)).loc cc0_scratch0 ↦{fullShare} listL L w) ∗ (iLoc d ↦[(iRowK L).view.set]{q} w))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (.op (.enqueueDma (iRowK L) (.here lV) (.dma cc0_scoped0.sem) hsrc hdst hsem) kk) Q) := by
  have h := Transfers.wp_dmaLocal countersEmb 𝒱₀ (V d (cV L) (jV L)) none (defs := defs₀ (F := F)) (src := iRowK L) (via := .same) (dst := lV) (sm := .dma cc0_scoped0.sem)
    (hsrc := hsrc) (hdst := hdst) (hsem := hsem) (k := kk) (Q := Q) (q := q) (fs := w) (fd := f) (Sd := Finset.univ) (default : HIx 1) (lV).view.dmaCredit rfl (by decide) (Finset.subset_univ _)
  have e : (lV).view.write (Elt F) f ((ReadAs.same).apply ((iRowK L).view.read (Elt F) w)) Finset.univ = listL L w := by
    rw [View.write_whole_univ]; rfl
  rw [e] at h
  exact h

theorem part_credit : 0 < ((sV).slice (oRect 0) (fun _ => rfl)).view.dmaCredit := by decide

/-- A scratch written out to the tile's part of the first output. -/
theorem put_s {α : Type} {Q : α → sProp 𝕄} (x : S1000000x16.Idx → F .f32) {fa fb : S512.Idx → F .f32} (hd : Done (gath L w x) 32 fa fb) (f : S16384.Idx → F .f32)
    {hsrc : (aV).view.WordExact} {hdst : (sK L).view.WordExact} {hsem : DmaTarget.Typed (nD := nD) (p := (V d (cV L) (jV L)).2) Space.vmem (.dma cc0_scoped1.sem) (.here (sK L))}
    {kk : PUnit → Prog (TpuEff nD τ sig (Elt F) Λ₀ (V d (cV L) (jV L)).2) α} :
    iprop(((V d (cV L) (jV L)).loc cc0_scratch2 ↦{fullShare} fa) ∗ (sLoc d ↦[oSet (wL L)]{fullShare} f) ∗ semVal (c2cell d (cV L) (jV L)) 0)
      ⊢ iprop((Transfers.Flight countersEmb (V d (cV L) (jV L)) (.dma cc0_scoped1.sem) (default : HIx 1) (sK L).view.dmaCredit
            iprop((sLoc d ↦[oSet (wL L)]{fullShare} sOut x w) ∗ ((V d (cV L) (jV L)).loc cc0_scratch2 ↦{fullShare} fa))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (.op (.enqueueDma aV (.here (sK L)) (.dma cc0_scoped1.sem) hsrc hdst hsem) kk) Q) := by
  have h := Transfers.wp_dmaLocal countersEmb 𝒱₀ (V d (cV L) (jV L)) none (defs := defs₀ (F := F)) (src := aV) (via := .same) (dst := sK L) (sm := .dma cc0_scoped1.sem)
    (hsrc := hsrc) (hdst := hdst) (hsem := hsem) (k := kk) (Q := Q) (q := fullShare) (fs := fa) (fd := f) (Sd := (sK L).view.set) (default : HIx 1) (sK L).view.dmaCredit rfl part_credit subset_rfl
  have e := pointsTo_congr (Ix := HIx 1) (Name := ℕ) (U := UU) (Lvl := ℕ) (ℓ := sLoc d) (Val := Elt F) (q := fullShare) (out_s L w x hd f)
  have ea : (aV).view.set = (Finset.univ : Finset S512.Idx) := View.set_whole _
  rw [← set_sK]
  exact e ▸ ea ▸ h

theorem put_t {α : Type} {Q : α → sProp 𝕄} (x : S1000000x16.Idx → F .f32) {fa fb : S512.Idx → F .f32} (hd : Done (gath L w x) 32 fa fb) (f : S16384.Idx → F .f32)
    {hsrc : (bV).view.WordExact} {hdst : (tK L).view.WordExact} {hsem : DmaTarget.Typed (nD := nD) (p := (V d (cV L) (jV L)).2) Space.vmem (.dma cc0_scoped2.sem) (.here (tK L))}
    {kk : PUnit → Prog (TpuEff nD τ sig (Elt F) Λ₀ (V d (cV L) (jV L)).2) α} :
    iprop(((V d (cV L) (jV L)).loc cc0_scratch3 ↦{fullShare} fb) ∗ (tLoc d ↦[oSet (wL L)]{fullShare} f) ∗ semVal (c3cell d (cV L) (jV L)) 0)
      ⊢ iprop((Transfers.Flight countersEmb (V d (cV L) (jV L)) (.dma cc0_scoped2.sem) (default : HIx 1) (tK L).view.dmaCredit
            iprop((tLoc d ↦[oSet (wL L)]{fullShare} tOut x w) ∗ ((V d (cV L) (jV L)).loc cc0_scratch3 ↦{fullShare} fb))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (.op (.enqueueDma bV (.here (tK L)) (.dma cc0_scoped2.sem) hsrc hdst hsem) kk) Q) := by
  have h := Transfers.wp_dmaLocal countersEmb 𝒱₀ (V d (cV L) (jV L)) none (defs := defs₀ (F := F)) (src := bV) (via := .same) (dst := tK L) (sm := .dma cc0_scoped2.sem)
    (hsrc := hsrc) (hdst := hdst) (hsem := hsem) (k := kk) (Q := Q) (q := fullShare) (fs := fb) (fd := f) (Sd := (tK L).view.set) (default : HIx 1) (tK L).view.dmaCredit rfl part_credit subset_rfl
  have e := pointsTo_congr (Ix := HIx 1) (Name := ℕ) (U := UU) (Lvl := ℕ) (ℓ := tLoc d) (Val := Elt F) (q := fullShare) (out_t L w x hd f)
  have ea : (bV).view.set = (Finset.univ : Finset S512.Idx) := View.set_whole _
  rw [← set_tK]
  exact e ▸ ea ▸ h

/-! ## The whole task -/

variable (m : (ℓ : Loc nD τ sig) → Buf (Elt F) ℓ) (W₀ : (d : Dev nD) → S32x8x128.Idx → BitVec 32)

set_option maxHeartbeats 4000000 in
/-- The task of the tile at `L`: from its share of the pairs and of the table and its part of both outputs, it brings them back with the outputs' parts
    written, its scratch buffers and semaphores as they were lent. -/
theorem tile_body (hF : (K (F := F)).Facts) (hw : ∀ d j, (W₀ d j).toNat < 1000000) (O : CellTallies nD τ sig (HIx 1)) (W : Waits sig (HIx 1)) (hO : ∀ g, O g none = 0) :
    iprop(levAts (K (F := F)).L (K (F := F)).lev ∗ emp ∗ goR m W₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L iV (Memref.isWhole_whole _) xV (Memref.isWhole_whole _) sV (Memref.isWhole_whole _) tV (Memref.isWhole_whole _)
            lV (Memref.isWhole_whole _) gV (Memref.isWhole_whole _) aV (Memref.isWhole_whole _) bV (Memref.isWhole_whole _)
            cc0_scratch4 cc0_scoped0 cc0_scoped1 cc0_scoped2)
          fun _ => iprop(tdR m W₀ d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  simp only [k0_part4_eq_skeleton, k0_part5_eq_skeleton, k0_part6_eq_skeleton]
  unfold k0_part4_skel k0_part5_skel k0_part6_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  unfold goR tdR
  iintro ⟨#Hlv, -, ⟨Hi, Hx, Hs, Ht⟩, ⟨⟨%fl, Hl⟩, ⟨%fg, Hg⟩, ⟨%fa, Ha⟩, ⟨%fb, Hb⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  icases Hmw with #Hmw
  ihave Hi := (pointsTo_split_subset (ℓ := iLoc d) (q := rq (wL L)) (f := W₀ d) (S := Finset.univ) (Finset.subset_univ (iRowK L).view.set)).1 $$ Hi
  icases Hi with ⟨Hi, Hir⟩
  iapply (fetch_start (F := F) d L (W₀ d) (rq (wL L)) fl) $$ [Hi Hl Hc1]
  · isplitl [Hi]; · iexact Hi
    isplitl [Hl]; · iexact Hl
    iexact Hc1
  iintro Hfl
  iapply (Transfers.wp_waitLocalO countersEmb 𝒱₀ (V d (cV L) (jV L)) none (default : HIx 1) (rfl : (lV).view.dmaCredit = _)) $$ [Hfl HO]
  · isplitl [Hfl]; · iexact Hfl
    isplitl [HO]; · iexact HO
    iapply (Transfers.MayWaits.elim (SemLoc.dma cc0_scoped0.sem)) $$ Hmw
  iintro ⟨⟨Hl, Hi⟩, Hc1, HO⟩
  ihave Hi := (pointsTo_split_subset (ℓ := iLoc d) (q := rq (wL L)) (f := W₀ d) (S := Finset.univ) (Finset.subset_univ (iRowK L).view.set)).2 $$ [Hi Hir]
  · isplitl [Hi] <;> iassumption
  imod (start (F := F) d L (W₀ d) (hw d) (m (xLoc d)) fg) $$ [Hx Hg Hl Hc0] with HI
  · isplitl [Hx]; · iexact Hx
    isplitl [Hg]; · iexact Hg
    isplitl [Hl]; · iexact Hl
    iexact Hc0
  iapply (issue (F := F) d L (W₀ d) (hw d) (m (xLoc d)) fg 0 1 (by decide) rfl) $$ HI; iintro HI
  iapply (issue (F := F) d L (W₀ d) (hw d) (m (xLoc d)) fg 1 2 (by decide) rfl) $$ HI; iintro HI
  iapply (issue (F := F) d L (W₀ d) (hw d) (m (xLoc d)) fg 2 3 (by decide) rfl) $$ HI; iintro HI
  iapply (issue (F := F) d L (W₀ d) (hw d) (m (xLoc d)) fg 3 4 (by decide) rfl) $$ HI; iintro HI
  iapply (issue (F := F) d L (W₀ d) (hw d) (m (xLoc d)) fg 4 5 (by decide) rfl) $$ HI; iintro HI
  iapply (issue (F := F) d L (W₀ d) (hw d) (m (xLoc d)) fg 5 6 (by decide) rfl) $$ HI; iintro HI
  iapply (issue (F := F) d L (W₀ d) (hw d) (m (xLoc d)) fg 6 7 (by decide) rfl) $$ HI; iintro HI
  iapply (issue (F := F) d L (W₀ d) (hw d) (m (xLoc d)) fg 7 8 (by decide) rfl) $$ HI; iintro HI
  ihave HI := (issued_waiting (F := F) d L (W₀ d) (hw d) (m (xLoc d)) fg O W _ (insert_none fun p hp => .inl hp)) $$ [HI HO]
  · isplitl [HI]; · iexact HI
    iexact HO
  iapply (wait (F := F) d L (W₀ d) (hw d) (m (xLoc d)) fg O W 0 1 (by decide) rfl) $$ [HI]
  · isplitr; · iexact Hmw
    iexact HI
  iintro HI
  iapply (wait (F := F) d L (W₀ d) (hw d) (m (xLoc d)) fg O W 1 2 (by decide) rfl) $$ [HI]
  · isplitr; · iexact Hmw
    iexact HI
  iintro HI
  iapply (wait (F := F) d L (W₀ d) (hw d) (m (xLoc d)) fg O W 2 3 (by decide) rfl) $$ [HI]
  · isplitr; · iexact Hmw
    iexact HI
  iintro HI
  iapply (wait (F := F) d L (W₀ d) (hw d) (m (xLoc d)) fg O W 3 4 (by decide) rfl) $$ [HI]
  · isplitr; · iexact Hmw
    iexact HI
  iintro HI
  iapply (wait (F := F) d L (W₀ d) (hw d) (m (xLoc d)) fg O W 4 5 (by decide) rfl) $$ [HI]
  · isplitr; · iexact Hmw
    iexact HI
  iintro HI
  iapply (wait (F := F) d L (W₀ d) (hw d) (m (xLoc d)) fg O W 5 6 (by decide) rfl) $$ [HI]
  · isplitr; · iexact Hmw
    iexact HI
  iintro HI
  iapply (wait (F := F) d L (W₀ d) (hw d) (m (xLoc d)) fg O W 6 7 (by decide) rfl) $$ [HI]
  · isplitr; · iexact Hmw
    iexact HI
  iintro HI
  iapply (waitLast (F := F) d L (W₀ d) (hw d) (m (xLoc d)) fg O W) $$ [HI]
  · isplitr; · iexact Hmw
    iexact HI
  iintro ⟨HD, Hc0, ⟨%W1, %hW1, HO⟩⟩
  ihave HD := (landed (F := F) d L (W₀ d) (hw d) (m (xLoc d)) fg) $$ HD
  icases HD with ⟨Hx, Hg, Hl⟩
  iapply (Scf.wp_for_bind _ (wpE (defs₀ (F := F)) 𝒱₀ (V d (cV L) (jV L)) none) Set.univ _ _ _ _ _ _
    (LoopInv (F := F) d L (gath L (W₀ d) (m (xLoc d)))) (trip (F := F) d L (gath L (W₀ d) (m (xLoc d))))) $$ [Hg Ha Hb]
  · unfold LoopInv
    isplitl [Hg]; · iexact Hg
    iexists fa, fb
    isplitr; · ipureintro; intro p hp; exact absurd hp (Nat.not_lt_zero _)
    isplitl [Ha]; · iexact Ha
    iexact Hb
  iintro %acc HL
  unfold LoopInv
  icases HL with ⟨Hg, ⟨%ga, %gb, %hd, Ha, Hb⟩⟩
  have hd' : Done (gath L (W₀ d) (m (xLoc d))) 32 ga gb := trips_eq ▸ hd
  iapply (put_s (F := F) d L (W₀ d) (m (xLoc d)) hd' (m (sLoc d))) $$ [Ha Hs Hc2]
  · isplitl [Ha]; · iexact Ha
    isplitl [Hs]; · iexact Hs
    iexact Hc2
  iintro Hfl
  iapply (Transfers.wp_waitLocalO countersEmb 𝒱₀ (V d (cV L) (jV L)) none (default : HIx 1) (rfl : (sK L).view.dmaCredit = _)) $$ [Hfl HO]
  · isplitl [Hfl]; · iexact Hfl
    isplitl [HO]; · iexact HO
    iapply (Transfers.MayWaits.elim (SemLoc.dma cc0_scoped1.sem)) $$ Hmw
  iintro ⟨⟨Hs, Ha⟩, Hc2, HO⟩
  iapply (put_t (F := F) d L (W₀ d) (m (xLoc d)) hd' (m (tLoc d))) $$ [Hb Ht Hc3]
  · isplitl [Hb]; · iexact Hb
    isplitl [Ht]; · iexact Ht
    iexact Hc3
  iintro Hfl
  iapply (Transfers.wp_waitLocalO countersEmb 𝒱₀ (V d (cV L) (jV L)) none (default : HIx 1) (rfl : (tK L).view.dmaCredit = _)) $$ [Hfl HO]
  · isplitl [Hfl]; · iexact Hfl
    isplitl [HO]; · iexact HO
    iapply (Transfers.MayWaits.elim (SemLoc.dma cc0_scoped2.sem)) $$ Hmw
  iintro ⟨⟨Ht, Hb⟩, Hc3, HO⟩
  rw [wp_ret]; imodintro
  isplitl [Hi Hx Hs Ht]
  · isplitl [Hi]; · iexact Hi
    isplitl [Hx]; · iexact Hx
    isplitl [Hs]; · iexact Hs
    iexact Ht
  isplitl [Hl Hg Ha Hb Hbufs]
  · isplitl [Hl]; · iexists _; iexact Hl
    isplitl [Hg]; · iexists _; iexact Hg
    isplitl [Ha]; · iexists _; iexact Ha
    isplitl [Hb]; · iexists _; iexact Hb
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; exact insert_none (insert_none hW1)

end Tile

end Cert.Proof.RunIdeal

end
-- ==== Proof.RunIdeal.Region.lean ====
/-
  THE TENSORCORE REGION: the loss kernel reads the two sums and the labels, each staged whole, and writes the loss.
  One point, four whole windows; nothing is owed while it runs. The region is entered holding the four arrays and left
  holding them again, the last at the loss of the other three.
-/
module

public import proofs.«01_k».proof.Proof.RunIdeal.Setup
public import proofs.«01_k».proof.Proof.Gen.KernelIdeal.Launch
public import proofs.«01_k».proof.Proof.Gen.KernelIdeal.Points
public import Idealize.ShloMosaic.Lib.Pipeline.ValueKit

@[expose] public section

noncomputable section

namespace Cert.Proof.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F] [Named F]

local notation "𝕄" => MT nD τ sig (HIx 1) (Elt F) ℕ UU ℕ

/-- A buffer of core `c`, through the memref `M`, held whole at `f`. -/
abbrev mpt (c : Dev nD) {sp : Space} {s : Shape} {e : EltTy} (M : Memref sig .tc sp s e) (f : Buf (Elt F) (M.view.loc (c : Thread nD τ))) : sProp 𝕄 :=
  M.view.loc (c : Thread nD τ) ↦{fullShare} f

/-- The loss kernel on its staging buffers: it leaves the loss in the last. -/
theorem loss_body (c : Dev nD) (f0 : Buf (Elt F) ((stage1_0 0).view.loc (c : Thread nD τ))) (f1 : Buf (Elt F) ((stage1_1 0).view.loc (c : Thread nD τ)))
    (f2 : Buf (Elt F) ((stage1_2 0).view.loc (c : Thread nD τ))) (f3 : Buf (Elt F) ((stage1_3 0).view.loc (c : Thread nD τ)))
    (E : Set ℕ) (Q : PUnit → sProp 𝕄) :
    iprop(mpt c (stage1_0 0) f0 ∗ mpt c (stage1_1 0) f1 ∗ mpt c (stage1_2 0) f2 ∗ mpt c (stage1_3 0) f3
        ∗ ((mpt c (stage1_0 0) f0 ∗ mpt c (stage1_1 0) f1 ∗ mpt c (stage1_2 0) f2 ∗ mpt c (stage1_3 0) (k1_pay1 (F := F) f0 f1 f2)) -∗ Q ⟨⟩))
      ⊢ wp frame (wpE (defs₀ (F := F)) Variants.none c none) E
          (cc1__tc_math_body (stage1_0 0) (hstage1_0 0) (stage1_1 0) (hstage1_1 0) (stage1_2 0) (hstage1_2 0) (stage1_3 0) (hstage1_3 0)) Q := by
  rw [cc1__tc_math_body_eq_skeleton]
  unfold cc1__tc_math_body_skel
  iintro ⟨H0, H1, H2, H3, Hk⟩
  sl_exec!
  sl_step
  iapply Hk
  isplitl [H0]; · iexact H0
  isplitl [H1]; · iexact H1
  isplitl [H2]; · iexact H2
  have h : (stage1_3 0).view.writes (Elt F) (stage1_3 0).view.junk (loss_body.sl.H3_1 c f0 f1 f2) = k1_pay1 (F := F) f0 f1 f2 := by
    unfold loss_body.sl.H3_1
    have e0 : View.readAt (Elt F) (stage1_0 0).view (Rect.unit ![0, 0] S128x128.size inb_S128x128_S128x128_0_0).toLoadRect f0 = f0 :=
      View.ld_unit_lit (S := S128x128) inb_S128x128_S128x128_0_0 f0 (by decide)
    have e1 : View.readAt (Elt F) (stage1_1 0).view (Rect.unit ![0, 0] S128x128.size inb_S128x128_S128x128_0_0).toLoadRect f1 = f1 :=
      View.ld_unit_lit (S := S128x128) inb_S128x128_S128x128_0_0 f1 (by decide)
    have e2 : View.readAt (Elt F) (stage1_2 0).view (Rect.unit ![0, 0] S128x128.size inb_S128x128_S128x128_0_0).toLoadRect f2 = f2 :=
      View.ld_unit_lit (S := S128x128) inb_S128x128_S128x128_0_0 f2 (by decide)
    rw [e0, e1, e2]
    have hc := View.read_writes_eq_canon (Val := Elt F) (stage1_3 0).view (stage1_3 0).view.junk
      [(⟨Rect.unit (s := S128x128) ![0, 0] S128x128.size inb_S128x128_S128x128_0_0, k1_pay1 (F := F) f0 f1 f2⟩ : View.Piece (Elt F) S128x128 .f32)]
      fun y => ⟨_, List.mem_singleton_self _, (Rect.mem_set_unit (inb := inb_S128x128_S128x128_0_0)).mpr fun a => by
        match a with
        | 0 => exact ⟨Nat.zero_le _, by have := (y 0).isLt; simpa using this⟩
        | 1 => exact ⟨Nat.zero_le _, by have := (y 1).isLt; simpa using this⟩⟩
    exact hc.trans (View.canon_cons_unit_lit (S := S128x128) inb_S128x128_S128x128_0_0 _ [] (by decide))
  rw [h]; iexact H3

/-! ## The proof data -/

section Data
variable (s t : (d : Dev nD) → S128x128.Idx → F .f32) (y : (d : Dev nD) → S128x128.Idx → BitVec 32) (o : (d : Dev nD) → S128x128.Idx → F .f32)

/-- The arrays as the region finds them, one per window; -/
def arrIn (c : Dev nD) : (w : Fin 4) → Buf (Elt F) ((cfg1.win w).arr.view.loc (c : Thread nD τ))
  | ⟨0, _⟩ => s c
  | ⟨1, _⟩ => t c
  | ⟨2, _⟩ => y c
  | ⟨3, _⟩ => o c
/-- and what the kernel leaves in each window's staging buffer. -/
def stAfter (c : Dev nD) : (w : Fin 4) → (cfg1.win w).block.Idx → Elt F (cfg1.win w).elt
  | ⟨0, _⟩ => s c
  | ⟨1, _⟩ => t c
  | ⟨2, _⟩ => y c
  | ⟨3, _⟩ => k1_pay1 (F := F) (s c) (t c) (y c)

/-- The pairs a core may have recorded when the region starts: those at or below the level of the one SparseCore call. -/
def recB (c : Dev nD) : Set (SemLoc sig × HIx 1) := {p | (K (F := F)).lev (SparseCore.T c, p.1) p.2 ≤ 8 * 1}

def dat1 (c : Dev nD) : Dat τ (Elt F) (HIx 1) ℕ UU ℕ cfg1 c where
  A w := arrIn s t y o c w
  after w _ := stAfter s t y c w
  Φ _ := Pipeline.scopedRest (Ix := HIx 1) (Name := ℕ) (U := UU) (Lvl := ℕ) (Val := Elt F) spec1 c
  q _ := fullShare
  owed _ := 0
  recorded _ := recB (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat1 s t y o c

theorem before_0 (c : Dev nD) (f : (cfg1.win 0).block.Idx → Elt F (cfg1.win 0).elt) : (dat1 s t y o c).before 0 t1_0 f = s c := by
  unfold Dat.before
  rw [if_pos (by decide)]; funext j
  exact congrArg (s c) (funext fun a => Fin.ext (Pipeline.Window.rect_emb_val_of_index_zero (cfg1.win 0) t1_0 a (by revert a; decide +kernel) j))

theorem before_1 (c : Dev nD) (f : (cfg1.win 1).block.Idx → Elt F (cfg1.win 1).elt) : (dat1 s t y o c).before 1 t1_0 f = t c := by
  unfold Dat.before
  rw [if_pos (by decide)]; funext j
  exact congrArg (t c) (funext fun a => Fin.ext (Pipeline.Window.rect_emb_val_of_index_zero (cfg1.win 1) t1_0 a (by revert a; decide +kernel) j))

theorem before_2 (c : Dev nD) (f : (cfg1.win 2).block.Idx → Elt F (cfg1.win 2).elt) : (dat1 s t y o c).before 2 t1_0 f = y c := by
  unfold Dat.before
  rw [if_pos (by decide)]; funext j
  exact congrArg (y c) (funext fun a => Fin.ext (Pipeline.Window.rect_emb_val_of_index_zero (cfg1.win 2) t1_0 a (by revert a; decide +kernel) j))

theorem arr_out (c : Dev nD) : (dat1 s t y o c).arrAt 3 cfg1.N = k1_pay1 (F := F) (s c) (t c) (y c) := by
  refine (dat1 s t y o c).arrAt_eq_of_after_last 3 t1_0 (by decide +kernel) _ fun j => ?_
  blk_simp
  dsimp only [dat1, stAfter]

theorem body_obligation (c : Dev nD) : BodyObligation (dat1 s t y o c) (defs₀ (F := F)) 𝒱₀ none Set.univ := fun u => by
  obtain rfl := fin_N1 u
  rw [bigSep_W1, bigSep_W1]
  simp only [owns_whole_eq]
  rw [show (dat1 s t y o c).Φ t1_0.castSucc = (dat1 s t y o c).Φ t1_0.succ from rfl,
    show (dat1 s t y o c).owesAt none t1_0.succ = (dat1 s t y o c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0 s t y o c] at hf0
  rw [before_1 s t y o c] at hf1
  rw [before_2 s t y o c] at hf2
  subst hf0 hf1 hf2
  iapply (loss_body c _ _ _ f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

/-! ## The region -/

/-- What the TensorCore owes around the region: nothing, its recorded pairs at or below the SparseCore call's level. -/
abbrev idleOwes (c : Dev nD) : sProp 𝕄 :=
  iprop(∃ W, ⌜(K (F := F)).WBelow (SparseCore.T c) W (8 * 1)⌝ ∗ owes (SparseCore.T c) (0 : CellTallies nD τ sig (HIx 1)) W)

abbrev aLoc (c : Dev nD) (b : Ref sig .tc) : Loc nD τ sig := (SparseCore.T c).loc b

/-- The four arrays, the last at `o`. -/
abbrev regArr (c : Dev nD) (o : S128x128.Idx → F .f32) : sProp 𝕄 :=
  iprop((aLoc c main_v2 ↦{fullShare} s c) ∗ (aLoc c main_v3 ↦{fullShare} t c) ∗ (aLoc c main_v4 ↦{fullShare} y c) ∗ aLoc c main_v5 ↦{fullShare} o)

theorem arrays_at (c : Dev nD) (G : (w : Fin 4) → Buf (Elt F) ((cfg1.win w).arr.view.loc (c : Thread nD τ))) :
    ((dat1 s t y o c).arrays G : sProp 𝕄)
      = iprop((aLoc c main_v2 ↦{fullShare} G 0) ∗ (aLoc c main_v3 ↦{fullShare} G 1) ∗ (aLoc c main_v4 ↦{fullShare} G 2) ∗ aLoc c main_v5 ↦{fullShare} G 3) := by
  have h := Pipeline.arrays_eq (Pipeline.pin (pcfgs (F := F)) adm) (pdats s t y o) 0 c launch1.arr_whole
    ((pdats s t y o 0 c).share_full fun _ => rfl) G
  rw [bigSep_W1] at h
  exact h

theorem rec_waitPairs (c : Dev nD) {W : Waits sig (HIx 1)} (h : ↑W ⊆ recB (F := F) c ∪ cfg1.waitPairs (none : HIx 1)) :
    (K (F := F)).WBelow (SparseCore.T c) W (8 * 1) := fun p hp => by
  rcases h hp with h | ⟨w, q, rfl⟩
  · exact h
  · exact Nat.zero_le _

set_option backward.isDefEq.respectTransparency.types false in
def reg : Pipeline.RegionSeg (pcfgs (F := F)) adm (pdats s t y o) (none : HIx 1) defs₀ 𝒱₀ ((K (F := F)).L) ((K (F := F)).lev) 0 where
  win := launch1.win.to₀
  block_pos := launch1.block_pos
  stage_whole := launch1.stage_whole
  K := PEmpty
  osem k := k.elim
  ho := Pipeline.OwnSemFacts.none _
  hbody c := (body_obligation s t y o c).loose
  hwaits := Pipeline.hwaits_of_owed_zero _ _ _ _ _ _ 0 fun _ _ => rfl
  pre c := iprop(regArr s t y c (o c) ∗ idleOwes c)
  post c := iprop(regArr s t y c (k1_pay1 (F := F) (s c) (t c) (y c)) ∗ idleOwes c)
  X _ := BI.emp
  Y _ := BI.emp
  Z _ := BI.emp
  hentry c := by
    rw [Pipeline.ownSems0_none, show (pdats s t y o 0 c).arrays ((pdats s t y o 0 c).arrAt · 0) = _ from arrays_at s t y o c _]
    iintro ⟨⟨⟨Hs, Ht, Hy, Ho⟩, HO⟩, -, -⟩
    imodintro
    isplitl [Hs Ht Hy Ho]
    · isplitl [Hs]; · iexact Hs
      isplitl [Ht]; · iexact Ht
      isplitl [Hy]; · iexact Hy
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iempintro
  hin c := by
    rw [show (pdats s t y o 0 c).Φ 0 = Pipeline.scopedRest spec1 c from rfl]
    iintro ⟨-, -, Hr⟩; iexact Hr
  hout c := by
    rw [Pipeline.ownSems0_none, show (pdats s t y o 0 c).Φ (Fin.last _) = Pipeline.scopedRest spec1 c from rfl]
    iintro Hr
    isplitr; · iempintro
    isplitr; · iempintro
    iexact Hr
  hexit c := by
    rw [show (pdats s t y o 0 c).arrays ((pdats s t y o 0 c).arrAt · (Pipeline.pin (pcfgs (F := F)) adm 0).N) = _ from arrays_at s t y o c _,
      show (pdats s t y o 0 c).arrAt 0 (Pipeline.pin (pcfgs (F := F)) adm 0).N = s c from (dat1 s t y o c).arrAt_in 0 rfl _,
      show (pdats s t y o 0 c).arrAt 1 (Pipeline.pin (pcfgs (F := F)) adm 0).N = t c from (dat1 s t y o c).arrAt_in 1 rfl _,
      show (pdats s t y o 0 c).arrAt 2 (Pipeline.pin (pcfgs (F := F)) adm 0).N = y c from (dat1 s t y o c).arrAt_in 2 rfl _,
      show (pdats s t y o 0 c).arrAt 3 (Pipeline.pin (pcfgs (F := F)) adm 0).N = _ from arr_out s t y o c]
    iintro ⟨⟨Hs, Ht, Hy, Ho⟩, HO, -, -⟩
    imodintro
    isplitr [HO]
    · isplitl [Hs]; · iexact Hs
      isplitl [Ht]; · iexact Ht
      isplitl [Hy]; · iexact Hy
      iexact Ho
    unfold Pipeline.Dat.owesAt Pipeline.owesWithin
    icases HO with ⟨%W, %hW, HO⟩; iexists W; isplitr; · ipureintro; exact rec_waitPairs c hW
    iexact HO

end Data

end Cert.Proof.RunIdeal

end
-- ==== Proof.RunIdeal.Launch.lean ====
/-
  THE LAUNCH. What the TensorCore holds is dealt to the thirty-two workers and gathered again; the tiles' obligation, the
  launch element of the ghost state, and the rule for a reshape on the TensorCore.
-/
module

public import proofs.«01_k».proof.Proof.RunIdeal.Tile
public import proofs.«01_k».proof.Proof.RunIdeal.Region

@[expose] public section

noncomputable section

namespace Cert.Proof.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x8x128 EltTy.i32)
local notation "xV" => (Memref.whole Cert.KernelIdeal.main_arg2_scv : Memref Cert.KernelIdeal.sig Kind.scVector Space.hbm Cert.KernelIdeal.S1000000x16 EltTy.f32)
local notation "sV" => (Memref.whole Cert.KernelIdeal.main_v1_0_scv : Memref Cert.KernelIdeal.sig Kind.scVector Space.hbm Cert.KernelIdeal.S16384 EltTy.f32)
local notation "tV" => (Memref.whole Cert.KernelIdeal.main_v1_1_scv : Memref Cert.KernelIdeal.sig Kind.scVector Space.hbm Cert.KernelIdeal.S16384 EltTy.f32)
local notation "lV" => (Memref.whole Cert.KernelIdeal.cc0_scratch0 : Memref Cert.KernelIdeal.sig Kind.scVector Space.vmem Cert.KernelIdeal.S8x128 EltTy.i32)
local notation "gV" => (Memref.whole Cert.KernelIdeal.cc0_scratch1 : Memref Cert.KernelIdeal.sig Kind.scVector Space.vmem Cert.KernelIdeal.S1024x16 EltTy.f32)
local notation "aV" => (Memref.whole Cert.KernelIdeal.cc0_scratch2 : Memref Cert.KernelIdeal.sig Kind.scVector Space.vmem Cert.KernelIdeal.S512 EltTy.f32)
local notation "bV" => (Memref.whole Cert.KernelIdeal.cc0_scratch3 : Memref Cert.KernelIdeal.sig Kind.scVector Space.vmem Cert.KernelIdeal.S512 EltTy.f32)

/-! ## The workers' parts and shares -/

theorem oSet_eq (w : Fin 32) : oSet w = (oRect w).set := by
  show ((View.whole (main_v1_0_scv : Ref sig .scVector)).slice (oRect w)).set = _
  rw [View.set_slice]; exact Finset.map_refl

theorem oSet_disjoint : ∀ w ∈ (Finset.univ : Finset (Fin 32)), ∀ w' ∈ (Finset.univ : Finset (Fin 32)), w ≠ w' → Disjoint (oSet w) (oSet w') :=
  fun w _ w' _ h => by rw [oSet_eq, oSet_eq]; exact Rect.part_disjoint odiv h

theorem oSet_cover : (Finset.univ : Finset (Fin 32)).biUnion oSet = Finset.univ :=
  (Finset.biUnion_congr rfl fun w _ => oSet_eq w).trans (Rect.biUnion_part odiv)

theorem sPts_parts (d : Dev nD) (f : Buf (Elt F) (sLoc d)) :
    (sLoc d ↦{fullShare} f : sProp 𝕄) = bigSep Finset.univ fun w : Fin 32 => sLoc d ↦[oSet w]{fullShare} f := by
  rw [← pointsTo_biUnion Finset.univ (ℓ := sLoc d) oSet oSet_disjoint, oSet_cover]; try rfl

theorem tPts_parts (d : Dev nD) (f : Buf (Elt F) (tLoc d)) :
    (tLoc d ↦{fullShare} f : sProp 𝕄) = bigSep Finset.univ fun w : Fin 32 => tLoc d ↦[oSet w]{fullShare} f := by
  rw [← pointsTo_biUnion Finset.univ (ℓ := tLoc d) oSet oSet_disjoint, oSet_cover]; try rfl

theorem iPts_shares (d : Dev nD) (f : Buf (Elt F) (iLoc d)) :
    (iLoc d ↦{fullShare} f : sProp 𝕄) = bigSep Finset.univ fun w : Fin 32 => iLoc d ↦{rq w} f :=
  pointsTo_piecesOf Finset.univ f (by decide) fullShare

theorem xPts_shares (d : Dev nD) (f : Buf (Elt F) (xLoc d)) :
    (xLoc d ↦{fullShare} f : sProp 𝕄) = bigSep Finset.univ fun w : Fin 32 => xLoc d ↦{rq w} f :=
  pointsTo_piecesOf Finset.univ f (by decide) fullShare

/-- Something held of every worker is held of every tile of both SparseCores. -/
theorem bigSep_workers (Φ : Fin 32 → sProp 𝕄) :
    (bigSep Finset.univ fun c : Fin 2 => bigSep Finset.univ fun i : Fin 16 => Φ (wid c i)) = bigSep Finset.univ Φ := by
  rw [bigSep_univ_equiv ((Equiv.prodComm (Fin 2) (Fin 16)).trans finProdFinEquiv) Φ, bigSep_univ_prod]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F] [Named F] (m : (ℓ : Loc nD τ sig) → Buf (Elt F) ℓ) (W₀ : (d : Dev nD) → S32x8x128.Idx → BitVec 32)

/-- What the call takes of the TensorCore's buffers, -/
theorem st0_eq (d : Dev nD) : (bigSep Finset.univ fun c : Fin ((K (F := F)).nCore 0) => (P m W₀).st 0 d c)
    = iprop((iLoc d ↦{fullShare} W₀ d) ∗ (xLoc d ↦{fullShare} m (xLoc d)) ∗ (sLoc d ↦{fullShare} m (sLoc d)) ∗ tLoc d ↦{fullShare} m (tLoc d)) := by
  show (bigSep Finset.univ fun c : Fin ((K (F := F)).nCore 0) => bigSep Finset.univ fun i : Fin 16 => goR m W₀ d (wid (Fin.cast nCore_zero c) i)) = _
  rw [bigSep_cores (F := F) (fun c => bigSep Finset.univ fun i : Fin 16 => goR m W₀ d (wid c i)), bigSep_workers (F := F) (goR m W₀ d),
    iPts_shares, xPts_shares, sPts_parts, tPts_parts, ← bigSep_sep', ← bigSep_sep', ← bigSep_sep']
  rfl

/-- and what it brings back. -/
theorem dn0_eq (d : Dev nD) : (bigSep Finset.univ fun c : Fin ((K (F := F)).nCore 0) => (P m W₀).dn 0 d c)
    = iprop((iLoc d ↦{fullShare} W₀ d) ∗ (xLoc d ↦{fullShare} m (xLoc d)) ∗ (sLoc d ↦{fullShare} sOut (m (xLoc d)) (W₀ d))
      ∗ tLoc d ↦{fullShare} tOut (m (xLoc d)) (W₀ d)) := by
  show (bigSep Finset.univ fun c : Fin ((K (F := F)).nCore 0) => bigSep Finset.univ fun i : Fin 16 => tdR m W₀ d (wid (Fin.cast nCore_zero c) i)) = _
  rw [bigSep_cores (F := F) (fun c => bigSep Finset.univ fun i : Fin 16 => tdR m W₀ d (wid c i)), bigSep_workers (F := F) (tdR m W₀ d),
    iPts_shares, xPts_shares, sPts_parts, tPts_parts, ← bigSep_sep', ← bigSep_sep', ← bigSep_sep']
  rfl

theorem vecSplit : (K (F := F)).VecSplit' (P m W₀) 0 := by
  intro d c
  show (bigSep Finset.univ fun i : Fin 16 => goR m W₀ d (wid (Fin.cast nCore_zero c) i)) ⊢ |={Set.univ}=> iprop(
      (bigSep Finset.univ fun i : Fin ((K (F := F)).nSub 0) => goR m W₀ d (wid (Fin.cast nCore_zero c) (Fin.cast nSub_zero i)))
      ∗ ((bigSep Finset.univ fun i : Fin ((K (F := F)).nSub 0) => tdR m W₀ d (wid (Fin.cast nCore_zero c) (Fin.cast nSub_zero i)))
          -∗ bigSep Finset.univ fun i : Fin 16 => tdR m W₀ d (wid (Fin.cast nCore_zero c) i)))
  rw [bigSep_tasks (F := F) (fun i => goR m W₀ d (wid (Fin.cast nCore_zero c) i)), bigSep_tasks (F := F) (fun i => tdR m W₀ d (wid (Fin.cast nCore_zero c) i))]
  iintro H; imodintro
  isplitl [H]; · iexact H
  iintro H; iexact H

/-! ## The tiles' obligation -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          iV (Memref.isWhole_whole _) xV (Memref.isWhole_whole _) sV (Memref.isWhole_whole _) tV (Memref.isWhole_whole _)
          lV (Memref.isWhole_whole _) gV (Memref.isWhole_whole _) aV (Memref.isWhole_whole _) bV (Memref.isWhole_whole _)
          cc0_scratch4 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hw : ∀ d j, (W₀ d j).toNat < 1000000) : (K (F := F)).TileObl (D (F := F)) 𝒱 (P m W₀) v₀ 0 := by
  intro d c i O W hO _ _
  simp only [show (P m W₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m W₀ hF hw O W hO).trans (wp_mono frame _ _ fun _ => obl_post)

theorem bigSep_nothing {I : Type} (s : Finset I) : (bigSep s fun _ => iprop(emp)) = (iprop(emp) : sProp 𝕄) := bigSep_emp_const s

/-! ## The launch element of the ghost state -/

/-- The staging cells' rounds of the region, and its transfers' tokens, as the launch hands them to a device. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m W₀).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)))) $$ Hu
  icases H with ⟨HH, HR⟩
  ihave H := (own_pair_emb embR (initOf (Pipeline.cells (Pipeline.pin (pcfgs (F := F)) adm) cellOf_inj) (Pipeline.launchToks (Pipeline.pin (pcfgs (F := F)) adm) cellOf_inj))
    (1 : Counters)) $$ HR
  icases H with ⟨HP, -⟩
  ihave HP := (show BI.own (((Emb.inl : Emb UP (UP × Counters)).trans embR)
      (initOf (Pipeline.cells (Pipeline.pin (pcfgs (F := F)) adm) cellOf_inj) (Pipeline.launchToks (Pipeline.pin (pcfgs (F := F)) adm) cellOf_inj)))
    ⊢ (BI.own (EP (initOf (Pipeline.cells (Pipeline.pin (pcfgs (F := F)) adm) cellOf_inj) (Pipeline.launchToks (Pipeline.pin (pcfgs (F := F)) adm) cellOf_inj))) : sProp 𝕄)
    from Entails.refl _) $$ HP
  ihave H := (Pipeline.fund_ghost (Pipeline.pin (pcfgs (F := F)) adm) EP cellOf_inj) $$ HP
  imod H with ⟨Hg, Ht⟩
  imodintro
  isplitl [HH]; · iexact HH
  isplitl [Hg Ht]
  · rw [bigSep_univ_of_subsingleton (0 : Dev nD), bigSep_univ_of_subsingleton (0 : Dev nD), bigSep_univ_of_subsingleton (0 : Dev nD),
      bigSep_univ_of_subsingleton (0 : Fin 1), bigSep_univ_of_subsingleton (0 : Fin 1)]
    unfold G
    exact Entails.refl _
  rw [show (bigSep Finset.univ fun thr : Thread nD τ => bigSep Finset.univ fun q : Fin 1 => (P (F := F) m W₀).x q thr) = bigSep Finset.univ fun _ => iprop(emp) from
    bigSep_congr fun _ _ => bigSep_univ_of_subsingleton (0 : Fin 1), bigSep_nothing]
  iempintro

/-! ## A reshape on the TensorCore -/

include m in
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false) (hxy : x ≠ y)
    (f : Buf (Elt F) (aLoc d x)) (g : Buf (Elt F) (aLoc d y)) (Q : PUnit → sProp 𝕄) :
    iprop(boundary (SparseCore.T d) ∗ (aLoc d x ↦{fullShare} f) ∗ (aLoc d y ↦{fullShare} g)
        ∗ ((boundary (SparseCore.T d) ∗ (aLoc d x ↦{fullShare} f) ∗ (aLoc d y ↦{fullShare} (fun i => he ▸ shapeCast y.ty.shape f hn i : Buf (Elt F) (aLoc d y)))) -∗ Q ⟨⟩))
      ⊢ wp frame (wpE ((K (F := F)).defs (D (F := F))) 𝒱 (SparseCore.T d) none) Set.univ
          (hlo rfl (StableHlo.reshape x y he hn hx hy) fun _ => .ret ⟨⟩) Q := by
  have hne : (Proc.devRef .tc x : DevRef τ sig) ≠ Proc.devRef .tc y := StableHlo.devRef_ne_of_ne hxy
  obtain ⟨A, hA⟩ : ∃ A : Valuation τ sig (Elt F), A (Proc.devRef .tc x) = f ∧ A (Proc.devRef .tc y) = g := by
    classical
    exact ⟨Function.update (Function.update (fun b => m (d, b)) (Proc.devRef .tc y) g) (Proc.devRef .tc x) f, Function.update_self .., by
      rw [Function.update_of_ne hne.symm, Function.update_self]⟩
  have held2 : ∀ B : Valuation τ sig (Elt F), (StableHlo.held (SparseCore.T d) {Proc.devRef .tc x, Proc.devRef .tc y} B : sProp 𝕄)
      = iprop((aLoc d x ↦{fullShare} B (Proc.devRef .tc x)) ∗ aLoc d y ↦{fullShare} B (Proc.devRef .tc y)) := by
    intro B
    unfold StableHlo.held
    rw [SparseCore.bigSep_insert' (by simpa using hne), bigSep_singleton]
  iintro ⟨Hb, Hx, Hy, Hk⟩
  iapply (StableHlo.wp_hlo_within 𝒱 (SparseCore.T d) none Set.univ (op := StableHlo.reshape x y he hn hx hy) (S := {Proc.devRef .tc x, Proc.devRef .tc y})
    (V := A) (Finset.Subset.refl _)) $$ [Hb Hx Hy]
  · isplitl [Hb]; · iexact Hb
    rw [held2, hA.1, hA.2]
    isplitl [Hx]; · iexact Hx
    iexact Hy
  rw [held2, StableHlo.reshape_result_ne _ _ _ _ _ _ _ hxy, StableHlo.reshape_result, hA.1]
  iintro ⟨Hb, Hx, Hy⟩
  rw [wp_ret]; imodintro
  iapply Hk
  isplitl [Hb]; · iexact Hb
  isplitl [Hx]; · iexact Hx
  iexact Hy

end Cert.Proof.RunIdeal

end
-- ==== Proof.RunIdeal.Main.lean ====
/-
  THE PROGRAM'S RUN. @main on the TensorCore lays the pairs out for the tiles, makes the SparseCore call, runs the loss region on its two
  outputs and the labels, and lays the loss out as the result; the run of the whole program then follows, its result named.
-/
module

public import proofs.«01_k».proof.Proof.RunIdeal.Launch

@[expose] public section

noncomputable section

namespace Cert.Proof.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The values @main passes through -/

variable [FloatOps F] [Named F] (m : (ℓ : Loc nD τ sig) → Buf (Elt F) ℓ) (ρ : Dev nD → PrngReg)

/-- The pairs as the tiles read them, -/
def words (d : Dev nD) : S32x8x128.Idx → BitVec 32 := shapeCast S32x8x128 (m (aLoc d main_arg0) : S16384x2.Idx → BitVec 32) shapeCasts_S16384x2_S32x8x128
/-- the two sums and the labels as the region reads them, -/
def sums (d : Dev nD) : S128x128.Idx → F .f32 := shapeCast S128x128 (sOut (m (aLoc d main_arg2)) (words m d)) shapeCasts_S16384_S128x128
def sqs (d : Dev nD) : S128x128.Idx → F .f32 := shapeCast S128x128 (tOut (m (aLoc d main_arg2)) (words m d)) shapeCasts_S16384_S128x128
def labs (d : Dev nD) : S128x128.Idx → BitVec 32 := shapeCast S128x128 (m (aLoc d main_arg1) : S16384.Idx → BitVec 32) shapeCasts_S16384_S128x128
/-- and the result. -/
def res (d : Dev nD) : S16384.Idx → F .f32 := shapeCast S16384 (k1_pay1 (F := F) (sums m d) (sqs m d) (labs m d)) shapeCasts_S128x128_S16384

/-! ## @main -/

theorem unscopedBufs_eq (d : Dev nD) (B : (b : Ref sig .tc) → Buf (Elt F) ((d.tc : Thread nD τ).loc b)) :
    (unscopedBufs d B : sProp 𝕄) = iprop((aLoc d main_arg0 ↦{fullShare} B main_arg0) ∗ (aLoc d main_arg1 ↦{fullShare} B main_arg1)
      ∗ (aLoc d main_arg2 ↦{fullShare} B main_arg2) ∗ (aLoc d main_v0 ↦{fullShare} B main_v0) ∗ (aLoc d main_v1_0 ↦{fullShare} B main_v1_0)
      ∗ (aLoc d main_v1_1 ↦{fullShare} B main_v1_1) ∗ (aLoc d main_v2 ↦{fullShare} B main_v2) ∗ (aLoc d main_v3 ↦{fullShare} B main_v3)
      ∗ (aLoc d main_v4 ↦{fullShare} B main_v4) ∗ (aLoc d main_v5 ↦{fullShare} B main_v5) ∗ aLoc d main_v6 ↦{fullShare} B main_v6) := by
  unfold unscopedBufs
  rw [show (Finset.univ.filter fun b : Ref sig .tc => ¬ b.isScoped)
      = {main_arg0, main_arg1, main_arg2, main_v0, main_v1_0, main_v1_1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The TensorCore owes nothing once the one call is done. -/
theorem Otc_one (d : Dev nD) : (K (F := F)).Otc d 1 = 0 := by
  unfold SparseCore.Cfg.Otc
  simp

/-- @main's call of the region is the call of the region's entry, lifted. -/
theorem call_eq : (Prog.lift (.customCall (SparseCore.inner (Pipeline.entry 0)) ()) :
      Prog (TpuEff nD τ sig (Elt F) (SparseCore.Sig (Pipeline.Sig Λ₀ (Fin 1) fun p => (pcfgs (F := F) p).Adm) 1) .tc) PUnit)
    = SparseCore.liftProg (Q := 1) (.op (.customCall (Pipeline.entry 0) ()) .ret : Prog (TpuEff nD τ sig (Elt F) (ΛP (F := F)) .tc) PUnit) := rfl

/-- The region's call, from its four arrays and the staging cells' launch state. -/
theorem wp_region [∀ e, Nonempty (Elt F e)] (s t : (d : Dev nD) → S128x128.Idx → F .f32) (y : (d : Dev nD) → S128x128.Idx → BitVec 32)
    (o : (d : Dev nD) → S128x128.Idx → F .f32) (d : Dev nD) (Q : PUnit → sProp 𝕄) :
    iprop(levAts (K (F := F)).L (K (F := F)).lev ∗ boundary (SparseCore.T d) ∗ regArr s t y d (o d) ∗ idleOwes (F := F) d ∗ G (F := F) d
        ∗ ((boundary (SparseCore.T d) ∗ regArr s t y d (k1_pay1 (F := F) (s d) (t d) (y d)) ∗ idleOwes (F := F) d) -∗ Q ⟨⟩))
      ⊢ wp frame (wpE ((K (F := F)).defs (D (F := F))) 𝒱 (SparseCore.T d) none) Set.univ
          (Prog.lift (.customCall (SparseCore.inner (Pipeline.entry 0)) ())) Q := by
  have h := (Pipeline.RegionSeg.wp (pcfgs (F := F)) adm (pdats s t y o) (none : HIx 1) cellOf_inj EP defs₀ 𝒱₀ (K (F := F)).L (K (F := F)).lev
      (p := 0) (reg s t y o) d none (fun u hu => by cases hu) .ret Q).trans
    ((K (F := F)).wp_liftProg (D (F := F)) 𝒱 (SparseCore.T d) Set.univ none
      (.op (.customCall (Pipeline.entry 0) ()) .ret : Prog (TpuEff nD τ sig (Elt F) (ΛP (F := F)) .tc) PUnit) Q)
  rw [show (reg s t y o).pre d = iprop(regArr s t y d (o d) ∗ idleOwes (F := F) d) from rfl,
    show (reg s t y o).post d = iprop(regArr s t y d (k1_pay1 (F := F) (s d) (t d) (y d)) ∗ idleOwes (F := F) d) from rfl] at h
  rw [call_eq]
  unfold G
  iintro ⟨#Hlv, Hb, Ha, HO, ⟨Hg, Ht⟩, Hk⟩
  iapply h
  isplitl [Hk]
  · iintro ⟨Hb, ⟨Ha, HO⟩⟩
    rw [wp_ret]; imodintro
    iapply Hk
    isplitl [Hb]; · iexact Hb
    isplitl [Ha]; · iexact Ha
    iexact HO
  isplitl [Hb]; · iexact Hb
  isplitl [Ha HO]
  · isplitl [Ha]; · iexact Ha
    iexact HO
  isplitr; · iexact Hlv
  isplitl [Hg]; · iexact Hg
  iexact Ht

/-- What @main ends holding: the arguments as they were launched, and the result. -/
abbrev FIN (d : Dev nD) : sProp 𝕄 :=
  iprop((aLoc d main_arg0 ↦{fullShare} m (aLoc d main_arg0)) ∗ (aLoc d main_arg1 ↦{fullShare} m (aLoc d main_arg1))
    ∗ (aLoc d main_arg2 ↦{fullShare} m (aLoc d main_arg2)) ∗ aLoc d main_v6 ↦{fullShare} res m d)

set_option maxRecDepth 16384 in
/-- @main on device `d`'s TensorCore. -/
theorem hmain [∀ e, Nonempty (Elt F e)] (κ : GSem nD τ sig → ℕ) (d : Dev nD) :
    iprop((K (F := F)).ctx EH (P m (words m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, Hp, Hs, Ht, Hv2, Hv3, Hv4, Hv5, Hv6⟩, Hts, -⟩, HG⟩
  -- the pairs laid out
  iapply (wp_reshape m d main_arg0 main_v0 rfl shapeCasts_S16384x2_S32x8x128 _ _ (by decide) (m (aLoc d main_arg0)) (m (aLoc d main_v0)) _)
  isplitl [Hb]; · iexact Hb
  isplitl [H0]; · iexact H0
  isplitl [Hp]; · iexact Hp
  iintro ⟨Hb, H0, Hp⟩
  -- the SparseCore call
  iapply ((K (F := F)).wp_run (D (F := F)) 𝒱 (EH := EH) (P := P m (words m)) κ d 0)
  isplitr; · iexact Hctx
  isplitl [Hst]; · iexact Hst
  isplitl [Hp H2 Hs Ht]
  · rw [st0_eq]
    isplitl [Hp]; · iexact Hp
    isplitl [H2]; · iexact H2
    isplitl [Hs]; · iexact Hs
    iexact Ht
  iintro ⟨Hst, Hdn⟩
  ihave Hdn' := (Entails.of_eq (dn0_eq m (words m) d)) $$ Hdn
  icases Hdn' with ⟨-, H2, Hs, Ht⟩
  -- the two sums and the labels laid out
  iapply (wp_reshape m d main_v1_0 main_v2 rfl shapeCasts_S16384_S128x128 _ _ (by decide) (sOut (m (aLoc d main_arg2)) (words m d)) (m (aLoc d main_v2)) _)
  isplitl [Hb]; · iexact Hb
  isplitl [Hs]; · iexact Hs
  isplitl [Hv2]; · iexact Hv2
  iintro ⟨Hb, -, Hv2⟩
  iapply (wp_reshape m d main_v1_1 main_v3 rfl shapeCasts_S16384_S128x128 _ _ (by decide) (tOut (m (aLoc d main_arg2)) (words m d)) (m (aLoc d main_v3)) _)
  isplitl [Hb]; · iexact Hb
  isplitl [Ht]; · iexact Ht
  isplitl [Hv3]; · iexact Hv3
  iintro ⟨Hb, -, Hv3⟩
  iapply (wp_reshape m d main_arg1 main_v4 rfl shapeCasts_S16384_S128x128 _ _ (by decide) (m (aLoc d main_arg1)) (m (aLoc d main_v4)) _)
  isplitl [Hb]; · iexact Hb
  isplitl [H1]; · iexact H1
  isplitl [Hv4]; · iexact Hv4
  iintro ⟨Hb, H1, Hv4⟩
  -- the region
  unfold SparseCore.Cfg.tcSt
  icases Hst with ⟨⟨%W, %hW, HO⟩, Hat, Hrest⟩
  ihave Hlv := ((K (F := F)).ctx_levAts κ) $$ Hctx
  iapply (wp_region (sums m) (sqs m) (labs m) (fun d => m (aLoc d main_v5)) d _)
  isplitl [Hlv]; · iexact Hlv
  isplitl [Hb]; · iexact Hb
  isplitl [Hv2 Hv3 Hv4 Hv5]
  · isplitl [Hv2]; · iexact Hv2
    isplitl [Hv3]; · iexact Hv3
    isplitl [Hv4]; · iexact Hv4
    iexact Hv5
  isplitl [HO]
  · iexists W
    isplitr; · ipureintro; exact hW
    rw [← Otc_one (F := F) d]; iexact HO
  isplitl [HG]; · iexact HG
  iintro ⟨Hb, ⟨-, -, -, Hv5⟩, HO⟩
  -- the result laid out
  iapply (wp_reshape m d main_v5 main_v6 rfl shapeCasts_S128x128_S16384 _ _ (by decide) (k1_pay1 (F := F) (sums m d) (sqs m d) (labs m d)) (m (aLoc d main_v6)) _)
  isplitl [Hb]; · iexact Hb
  isplitl [Hv5]; · iexact Hv5
  isplitl [Hv6]; · iexact Hv6
  iintro ⟨Hb, -, Hv6⟩
  imodintro
  isplitl [HO Hat Hrest]
  · isplitl [HO]
    · icases HO with ⟨%W', %hW', HO⟩
      iexists W'
      isplitr; · ipureintro; exact hW'
      rw [Otc_one (F := F) d]; iexact HO
    isplitl [Hat]; · iexact Hat
    iexact Hrest
  isplitr [Hb Hts]
  · isplitl [H0]; · iexact H0
    isplitl [H1]; · iexact H1
    isplitl [H2]; · iexact H2
    iexact Hv6
  isplitl [Hb] <;> iassumption

/-! ## The program's run -/

/-- What a quiescent machine's memory says of device `d`. -/
def fq (d : Dev nD) (s' : Phys nD τ sig (Elt F)) : Prop :=
  s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_v6) = res m d

set_option maxRecDepth 16384 in
theorem hfin (d : Dev nD) (s' : Phys nD τ sig (Elt F)) : iprop(FIN m d ∗ SI s') ⊢ (⌜fq m d s'⌝ : sProp 𝕄) := by
  iintro ⟨⟨H0, H1, H2, H6⟩, HSI⟩
  ihave H := (persistent_entails_right (SI_pointsTo_agree (st := s') (ℓ := aLoc d main_arg0) (I := Finset.univ) (q := fullShare) (f := m (aLoc d main_arg0)))) $$ [HSI H0]
  · isplitl [HSI] <;> iassumption
  icases H with ⟨%h0, HSI, -⟩
  ihave H := (persistent_entails_right (SI_pointsTo_agree (st := s') (ℓ := aLoc d main_arg1) (I := Finset.univ) (q := fullShare) (f := m (aLoc d main_arg1)))) $$ [HSI H1]
  · isplitl [HSI] <;> iassumption
  icases H with ⟨%h1, HSI, -⟩
  ihave H := (persistent_entails_right (SI_pointsTo_agree (st := s') (ℓ := aLoc d main_arg2) (I := Finset.univ) (q := fullShare) (f := m (aLoc d main_arg2)))) $$ [HSI H2]
  · isplitl [HSI] <;> iassumption
  icases H with ⟨%h2, HSI, -⟩
  ihave H := (SI_pointsTo_agree (st := s') (ℓ := aLoc d main_v6) (I := Finset.univ) (q := fullShare) (f := res m d)) $$ [HSI H6]
  · isplitl [HSI] <;> iassumption
  icases H with %h6
  ipureintro
  exact ⟨funext fun i => h0 i (Finset.mem_univ i), funext fun i => h1 i (Finset.mem_univ i), funext fun i => h2 i (Finset.mem_univ i),
    funext fun i => h6 i (Finset.mem_univ i)⟩

/-- Every device's arguments unchanged and its result named, every semaphore at zero. -/
def QC : PUnit × MemSt nD τ sig (Elt F) → Prop := fun r =>
  (∀ c : Dev nD, r.2.mem (aLoc c main_arg0) = m (aLoc c main_arg0) ∧ r.2.mem (aLoc c main_arg1) = m (aLoc c main_arg1)
    ∧ r.2.mem (aLoc c main_arg2) = m (aLoc c main_arg2) ∧ r.2.mem (aLoc c main_v6) = res m c) ∧ r.2.sem = fun _ => 0

theorem run_main [∀ e, Nonempty (Elt F e)] (hw : ∀ d j, (words m d j).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (words m)) (A := ∅) facts v₀
    (fun q hq => match q with | 0 => nomatch hq)
    (fun q _ => match q with | 0 => tileObl m (words m) facts hw)
    (fun q _ => match q with | 0 => SparseCore.Cfg.VecSplit.of_plain (vecSplit m (words m)))
    m ρ main (fun d => G (F := F) d) (FIN m) (u₀ (F := F)) (sep_elim_left.trans (hu₀ m (words m))) (hmain m ρ) (fq m) (hfin m) (QC m) (fun _ h hz => ⟨h, hz⟩)

end Cert.Proof.RunIdeal

end
-- ==== Proof.RunIdeal.Frame.lean ====
/-
  THE FRAME CLAIM OF THE PROGRAM: its run with the result dropped.
-/
module

public import proofs.«01_k».proof.Proof.RunIdeal.Main
public import proofs.«01_k».proof.Proof.Range

@[expose] public section

noncomputable section

namespace Cert.Proof.RunIdeal

open Cert.KernelIdeal Cert.KernelIdeal.Gen

open Idealize.ShloMosaic Idealize.SL.Sem

/-- Under the precondition every word the tiles read names a row. -/
theorem words_lt [Cert.Pre_pairs_in_rows.Facts] (m : (ℓ : Loc nD τ sig) → Buf (Elt Ideal) ℓ) (h : Cert.Pre_KernelIdeal m) (d : Dev nD) (j : S32x8x128.Idx) :
    (words m d j).toNat < 1000000 := Range.words_lt _ _ _ (h d) _

theorem frame [Cert.Pre_pairs_in_rows.Facts] : Cert.quiescent_KernelIdeal := fun m ρ hpre =>
  (θ_run Cert.KernelIdeal.defs _ _).mono (fun _ h => ⟨fun c => ⟨(h.1 c).1, (h.1 c).2.1, (h.1 c).2.2.1⟩, h.2⟩) (run_main (F := Ideal) m ρ (words_lt m hpre))

end Cert.Proof.RunIdeal

end
-- ==== Proof.Math.lean ====
/-
  THE MATHEMATICS OF THE LOSS, over the extended reals.

  The reference forms the loss of a pair from two logistic terms, each a maximum plus `log (1 + exp (-|.|))`, and the kernel takes
  that last term once for both; and the kernel adds the two sums of squares before it halves and scales them. This module proves
  that neither makes a difference: the distance is not negative, so `x = dist - 10` is a real number or `⊤`; at a real number
  the two readings agree by arithmetic, and at `⊤` the shared term is zero. The sums of squares are not negative,
  so a product with a positive real distributes over them, infinite or not.
-/
module

public import Idealize.ShloMosaic.PureOps.Ideal.Laws
public import Idealize.ShloMosaic.Lib.IdealHost
public import proofs.«01_k».proof.Proof.Values

@[expose] public section

noncomputable section

namespace Cert.Proof.Math

open Idealize.ShloMosaic Cert.Proof.Values

open scoped BigOperators

/-! ## The constants as the numbers they are -/

theorem bits_neg_one : Ideal.ofBits .f32 0xBF800000#32 = ((-1 : ℝ) : EReal) := by
  simp [Ideal.ofBits, Ideal.ieee, -EReal.coe_mul, -EReal.coe_neg]; norm_num

theorem bits_ten : Ideal.ofBits .f32 0x41200000#32 = ((10 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem bits_others : Ideal.ofBits .f32 0x497423F0#32 = ((999999 : ℝ) : EReal) := by
  simp [Ideal.ofBits, Ideal.ieee, -EReal.coe_mul]; norm_num

theorem bits_two_pi : Ideal.ofBits .f32 0x40C90FDB#32 = ((13176795 / 2097152 : ℝ) : EReal) := by
  simp [Ideal.ofBits, Ideal.ieee, -EReal.coe_mul]; norm_num

/-! ## The logistic part -/

/-- `log (1 + exp (-|x|))` at a real number, the number itself real. -/
theorem soft_coe (r : ℝ) : Ideal.log1p (Ideal.exp ((-|r| : ℝ) : EReal)) = ((Real.log (1 + Real.exp (-|r|)) : ℝ) : EReal) := by
  have h : ¬ (1 + Real.exp (-|r|) ≤ 0) := by have := Real.exp_pos (-|r|); linarith
  show Ideal.log (1 + ((Real.exp (-|r|) : ℝ) : EReal)) = _
  rw [← EReal.coe_one, ← EReal.coe_add]
  show (if _ ≤ (0 : ℝ) then (⊥ : EReal) else _) = _
  rw [if_neg h]

/-- `log (1 + exp ⊥)` is zero. -/
theorem soft_bot : Ideal.log1p (Ideal.exp ⊥) = 0 := by
  show Ideal.log (1 + 0) = 0
  rw [add_zero, ← EReal.coe_one]
  show (if (1 : ℝ) ≤ 0 then (⊥ : EReal) else _) = _
  rw [if_neg (by norm_num), Real.log_one, EReal.coe_zero]

/-- The absolute value as a maximum, at a real number. -/
theorem abs_coe (r : ℝ) : max (r : EReal) ((-r : ℝ) : EReal) = ((|r| : ℝ) : EReal) := by
  rw [abs_eq_max_neg, EReal.coe_strictMono.monotone.map_max]

/-- The logistic part of the loss at label `y` and distance `d`, as the kernel forms it and as the reference does. -/
theorem logistic (y : ℝ) (d : EReal) (hd : 0 ≤ d) :
    (y : EReal) * max (1 * (d - ((10 : ℝ) : EReal))) 0 + (1 - (y : EReal)) * max (0 - 1 * (d - ((10 : ℝ) : EReal))) 0
        + Ideal.log1p (Ideal.exp (0 - max (1 * (d - ((10 : ℝ) : EReal))) (-(1 * (d - ((10 : ℝ) : EReal))))))
      = (y : EReal) * (max 0 (1 * (d - ((10 : ℝ) : EReal)))
            + Ideal.log1p (Ideal.exp (-max (0 - 1 * (d - ((10 : ℝ) : EReal))) (-(0 - 1 * (d - ((10 : ℝ) : EReal)))))))
        + (1 - (y : EReal)) * (max 0 (((-1 : ℝ) : EReal) * (d - ((10 : ℝ) : EReal)))
            + Ideal.log1p (Ideal.exp (-max (0 - ((-1 : ℝ) : EReal) * (d - ((10 : ℝ) : EReal))) (-(0 - ((-1 : ℝ) : EReal) * (d - ((10 : ℝ) : EReal))))))) := by
  induction d with
  | bot => exact absurd hd (by simp)
  | top =>
    have h1 : (⊤ : EReal) - ((10 : ℝ) : EReal) = ⊤ := EReal.top_sub_coe 10
    have h2 : ((-1 : ℝ) : EReal) * ⊤ = ⊥ := EReal.coe_mul_top_of_neg (by norm_num)
    have h3 : (0 : EReal) - ⊤ = ⊥ := by rw [zero_sub, EReal.neg_top]
    have h4 : (0 : EReal) - ⊥ = ⊤ := by rw [zero_sub, EReal.neg_bot]
    simp only [h1, h2, h3, h4, one_mul, EReal.neg_top, EReal.neg_bot, max_eq_left (bot_le : (⊥ : EReal) ≤ _), max_eq_right (bot_le : (⊥ : EReal) ≤ _),
      max_eq_left (le_top : _ ≤ (⊤ : EReal)), max_eq_right (le_top : _ ≤ (⊤ : EReal)), soft_bot, add_zero, mul_zero]
  | coe d =>
    have hx : ((d : ℝ) : EReal) - ((10 : ℝ) : EReal) = ((d - 10 : ℝ) : EReal) := (EReal.coe_sub d 10).symm
    have hn : (0 : EReal) - ((d - 10 : ℝ) : EReal) = ((-(d - 10) : ℝ) : EReal) := by rw [zero_sub, EReal.coe_neg]
    have hm : ((-1 : ℝ) : EReal) * ((d - 10 : ℝ) : EReal) = ((-(d - 10) : ℝ) : EReal) := by rw [← EReal.coe_mul, neg_one_mul]
    have hnn : (0 : EReal) - ((-(d - 10) : ℝ) : EReal) = ((d - 10 : ℝ) : EReal) := by rw [zero_sub, ← EReal.coe_neg, neg_neg]
    have h0 : ∀ r : ℝ, max (r : EReal) 0 = ((max r 0 : ℝ) : EReal) := fun r => by
      rw [← EReal.coe_zero, EReal.coe_strictMono.monotone.map_max]
    have h1 : (1 : EReal) - (y : EReal) = ((1 - y : ℝ) : EReal) := by rw [EReal.coe_sub, EReal.coe_one]
    have hz : ∀ r : ℝ, (0 : EReal) - (r : EReal) = ((-r : ℝ) : EReal) := fun r => by rw [zero_sub, EReal.coe_neg]
    simp only [hx, one_mul, hn, hm, hnn, abs_coe, max_comm (0 : EReal), h0, h1, hz, ← EReal.coe_neg, abs_neg, soft_coe, ← EReal.coe_mul, ← EReal.coe_add]
    rw [EReal.coe_eq_coe_iff]
    ring

/-! ## The part from the squares -/

theorem div_coe (x : EReal) {r : ℝ} (hr : r ≠ 0) : Ideal.div x (r : EReal) = x * ((r⁻¹ : ℝ) : EReal) := by
  unfold Ideal.div
  rw [if_neg (by exact_mod_cast hr), EReal.coe_inv]

theorem div_one (x : EReal) : Ideal.div x 1 = x := by
  rw [← EReal.coe_one, div_coe x one_ne_zero, inv_one, EReal.coe_one, mul_one]

/-- The part from the sums of squares `a` and `b`, as the kernel forms it and as the reference does. -/
theorem latent (a b : EReal) (ha : 0 ≤ a) (hb : 0 ≤ b) (l : ℝ) :
    (((1 / 2 : ℝ) : EReal) * (a + b) + ((16 * l : ℝ) : EReal)) * ((1 / 999999 : ℝ) : EReal)
      = Ideal.div (Ideal.div (((1 / 2 : ℝ) : EReal) * a) 1 + ((8 : ℝ) : EReal) * (l : EReal)
          + (Ideal.div (((1 / 2 : ℝ) : EReal) * b) 1 + ((8 : ℝ) : EReal) * (l : EReal))) ((999999 : ℝ) : EReal) := by
  have h : ((16 * l : ℝ) : EReal) = ((8 : ℝ) : EReal) * (l : EReal) + ((8 : ℝ) : EReal) * (l : EReal) := by
    rw [← EReal.coe_mul, ← EReal.coe_add]; congr 1; ring
  rw [div_coe _ (by norm_num), div_one, div_one, EReal.left_distrib_of_nonneg ha hb, h, add_add_add_comm, one_div (999999 : ℝ)]

/-! ## The two sums of the tiles -/

/-- The tiles' first sum is the sum of the squared differences. -/
theorem sVal_eq (u v : Fin 16 → EReal) : sVal (F := Ideal) u v = ∑ j, (u j - v j) * (u j - v j) := by
  show cols.foldl (fun acc j => acc + (u j - v j) * (u j - v j)) (Ideal.ofBits .f32 0x00000000#32) = _
  rw [Ideal.ofBits_zero_f32]
  simp only [cols, List.foldl, Fin.sum_univ_succ, zero_add]
  simp [add_assoc]

/-- The tiles' second sum is the sum of the two sums of squares. -/
theorem tVal_eq (u v : Fin 16 → EReal) : tVal (F := Ideal) u v = ∑ j, u j * u j + ∑ j, v j * v j := by
  show cols.foldl (fun acc j => acc + u j * u j + v j * v j) (Ideal.ofBits .f32 0x00000000#32) = _
  rw [Ideal.ofBits_zero_f32, ← Finset.sum_add_distrib]
  simp only [cols, List.foldl, Fin.sum_univ_succ, zero_add]
  simp [add_assoc]

/-- A square is not negative. -/
theorem square_nonneg (a : EReal) : 0 ≤ a * a := by
  rcases le_total 0 a with h | h
  · exact mul_nonneg h h
  · rw [← neg_mul_neg]; exact mul_nonneg (EReal.neg_nonneg.2 h) (EReal.neg_nonneg.2 h)

theorem squares_nonneg (u : Fin 16 → EReal) : 0 ≤ ∑ j, u j * u j := Finset.sum_nonneg fun _ _ => square_nonneg _

/-- The square root is not negative where its argument is not. -/
theorem sqrt_nonneg (a : EReal) (h : 0 ≤ a) : 0 ≤ Ideal.sqrt a := by
  induction a with
  | bot => exact absurd h (by simp)
  | top => exact le_top
  | coe r =>
    have hr : ¬ r < 0 := not_lt.2 (EReal.coe_nonneg.1 h)
    show (0 : EReal) ≤ if r < 0 then ⊥ else ((Real.sqrt r : ℝ) : EReal)
    rw [if_neg hr]
    exact EReal.coe_nonneg.2 (Real.sqrt_nonneg r)

/-- The logarithm of the reference's constant. -/
theorem log_two_pi : Ideal.log ((13176795 / 2097152 : ℝ) : EReal) = ((Real.log (13176795 / 2097152) : ℝ) : EReal) := by
  show (if _ ≤ (0 : ℝ) then (⊥ : EReal) else _) = _
  rw [if_neg (by norm_num)]

end Cert.Proof.Math

end
-- ==== Proof.KernelValue.lean ====
/-
  WHAT THE KERNEL RETURNS FOR A PAIR, over the extended reals: its loss from the pair's label and the two sums its tile kept, the
  sums being those of the two rows the pair names.
-/
module

public import proofs.«01_k».proof.Proof.RunIdeal.Frame
public import proofs.«01_k».proof.Proof.Math
public import Idealize.ShloMosaic.Lib.Routing.Ops

@[expose] public section

noncomputable section

namespace Cert.Proof.KernelValue

open Cert.KernelIdeal Cert.KernelIdeal.Gen Cert.Proof.RunIdeal

open Idealize.ShloMosaic Idealize.SL.Sem

/-- The loss of a pair from its label `y`, the sum `s` of the squared differences and the sum `t` of the squares, as the kernel forms it. -/
def loss (y s t : EReal) : EReal :=
  y * max (1 * (Ideal.sqrt s - ((10 : ℝ) : EReal))) 0 + (1 - y) * max (0 - 1 * (Ideal.sqrt s - ((10 : ℝ) : EReal))) 0
    + Ideal.log1p (Ideal.exp (0 - max (1 * (Ideal.sqrt s - ((10 : ℝ) : EReal))) (-(1 * (Ideal.sqrt s - ((10 : ℝ) : EReal))))))
    + (((1 / 2 : ℝ) : EReal) * t + ((16 * Real.log (13176795 / 2097152) : ℝ) : EReal)) * ((1 / 999999 : ℝ) : EReal)

/-- Laying an array out as its own shape changes nothing. -/
theorem cast_self {α : Type} (x : S128x128.Idx → α) (h : S128x128.ShapeCasts S128x128) : shapeCast S128x128 x h = x :=
  funext fun j => shapeCast_apply x h j j rfl

theorem two_c_eq : Named.named (F := Ideal) κ "two_c" (φ := .f32) 0x41EB3F8E#32 = ((16 * Real.log (13176795 / 2097152) : ℝ) : EReal) := rfl

theorem scale_eq : Named.named (F := Ideal) κ "scale" (φ := .f32) 0x358637C6#32 = ((1 / 999999 : ℝ) : EReal) := rfl

/-- The region's result at an element. -/
theorem pay_apply (s t : S128x128.Idx → EReal) (y : S128x128.Idx → BitVec 32) (j : S128x128.Idx) :
    k1_pay1 (F := Ideal) s t y j = loss (((y j).toInt : ℝ) : EReal) (s j) (t j) := by
  unfold k1_pay1
  rw [cast_self s, cast_self t, cast_self y]
  unfold loss
  rw [← two_c_eq, ← scale_eq, ← Math.bits_ten, ← Math.bits_half, ← Ideal.ofBits_one_f32, ← Ideal.ofBits_zero_f32]
  rfl

/-- Place `i` of an array laid out as 128 rows of 128. -/
def square (i : Fin 16384) : S128x128.Idx := Values.ix2 ⟨i.val / 128, by omega⟩ ⟨i.val % 128, by omega⟩

theorem square_place (i : Fin 16384) : (S128x128.rowMajor (square i)).val = (S16384.rowMajor (ValueIdx.ix1 i)).val := by
  rw [Shape.rowMajor_val_two, Shape.rowMajor_val_one]
  show i.val / 128 * 128 + i.val % 128 = i.val
  omega

/-- An array laid out as a square, read at place `i`. -/
theorem square_apply {α : Type} (x : S16384.Idx → α) (h : S16384.ShapeCasts S128x128) (i : Fin 16384) : shapeCast S128x128 x h (square i) = x (ValueIdx.ix1 i) :=
  shapeCast_apply x h _ _ (square_place i).symm

variable (m : (ℓ : Loc nD τ sig) → Buf (Elt Ideal) ℓ) (d : Dev nD)

/-- The three arguments as arrays. -/
abbrev pairs : S16384x2.Idx → BitVec 32 := m (aLoc d main_arg0)

@[inherit_doc pairs]
abbrev labels : S16384.Idx → BitVec 32 := m (aLoc d main_arg1)

@[inherit_doc pairs]
abbrev table : S1000000x16.Idx → EReal := m (aLoc d main_arg2)

/-- The pairs laid out for the tiles, read at the place of word `b` of pair `i`. -/
theorem laid_apply (p : S16384x2.Idx → BitVec 32) (i : Fin 16384) (b : Fin 2) (n : Fin 32768) (hn : n.val = 2 * i.val + b.val) :
    wordAt (shapeCast S32x8x128 p shapeCasts_S16384x2_S32x8x128) n = p (ValueIdx.ix2 i b) := by
  unfold wordAt
  refine shapeCast_apply _ _ _ _ ?_
  rw [Equiv.apply_symm_apply, Shape.rowMajor_val_two]
  show i.val * 2 + b.val = n.val
  omega

/-- The word at place `2 i + b` of the tiles' layout is word `b` of pair `i`. -/
theorem wordAt_eq (i : Fin 16384) (b : Fin 2) (n : Fin 32768) (hn : n.val = 2 * i.val + b.val) :
    wordAt (words m d) n = pairs m d (ValueIdx.ix2 i b) := laid_apply _ i b n hn

/-- The row of the table at word `b` of pair `i`. -/
def row (hp : ∀ j, (pairs m d j).toNat < 1000000) (i : Fin 16384) (b : Fin 2) (k : Fin 16) : EReal :=
  table m d (ValueIdx.ix2 ⟨(pairs m d (ValueIdx.ix2 i b)).toNat, hp _⟩ k)

theorem rowT_eq (hp : ∀ j, (pairs m d j).toNat < 1000000) (i : Fin 16384) (b : Fin 2) (n : Fin 32768) (hn : n.val = 2 * i.val + b.val) :
    rowT (F := Ideal) (table m d) (wordAt (words m d) n) = row m d hp i b := by
  funext k
  unfold rowT row
  rw [wordAt_eq m d i b n hn]
  refine congrArg (table m d) (funext fun a => Fin.ext ?_)
  match a with
  | ⟨0, _⟩ => exact Nat.mod_eq_of_lt (hp _)
  | ⟨1, _⟩ => rfl

open scoped BigOperators

/-- The result at a pair, from its two rows. -/
theorem res_apply (hp : ∀ j, (pairs m d j).toNat < 1000000) (i : Fin 16384) :
    res (F := Ideal) m d (ValueIdx.ix1 i) = loss (((labels m d (ValueIdx.ix1 i)).toInt : ℝ) : EReal)
      (∑ k, (row m d hp i 0 k - row m d hp i 1 k) * (row m d hp i 0 k - row m d hp i 1 k))
      (∑ k, row m d hp i 0 k * row m d hp i 0 k + ∑ k, row m d hp i 1 k * row m d hp i 1 k) := by
  have hs : sums (F := Ideal) m d (square i) = ∑ k, (row m d hp i 0 k - row m d hp i 1 k) * (row m d hp i 0 k - row m d hp i 1 k) := by
    unfold sums
    rw [square_apply]
    unfold sOut
    rw [rowT_eq m d hp i 0 _ rfl, rowT_eq m d hp i 1 _ rfl]
    exact Math.sVal_eq _ _
  have ht : sqs (F := Ideal) m d (square i) = ∑ k, row m d hp i 0 k * row m d hp i 0 k + ∑ k, row m d hp i 1 k * row m d hp i 1 k := by
    unfold sqs
    rw [square_apply]
    unfold tOut
    rw [rowT_eq m d hp i 0 _ rfl, rowT_eq m d hp i 1 _ rfl]
    exact Math.tVal_eq _ _
  have hy : labs (F := Ideal) m d (square i) = labels m d (ValueIdx.ix1 i) := by
    unfold labs
    exact square_apply _ _ i
  have hr : res (F := Ideal) m d (ValueIdx.ix1 i) = k1_pay1 (F := Ideal) (sums m d) (sqs m d) (labs m d) (square i) := by
    unfold res
    exact shapeCast_apply _ _ _ _ (square_place i)
  rw [hr, pay_apply, hs, ht, hy]

end Cert.Proof.KernelValue

end
-- ==== Proof.RefRows.lean ====
/-
  THE ROWS THE REFERENCE READS. The reference takes, for each pair, the table's row at the pair's first word and the one at its
  second. Where a word names a row, the reference's guards against words outside the table choose nothing else: the word is not
  negative, so no extent is added to it; it is at most the last row, so the row taken is kept.
-/
module

public import proofs.«01_k».proof.Proof.Gen.ReferenceIdeal.Run
public import Idealize.ShloMosaic.Lib.Routing.Ops
public import Idealize.ShloMosaic.Lib.Routing.OpsPair
public import Idealize.ShloMosaic.Lib.ReduceAll

@[expose] public section

noncomputable section

namespace Cert.Proof.RefRows

open Cert.ReferenceIdeal Cert.ReferenceIdeal.Gen Cert.ReferenceIdeal.Value

open Idealize.ShloMosaic Idealize.ShloMosaic.ValueIdx Idealize.ShloMosaic.Routing Idealize.SL.Sem

variable {F : FTy → Type} [FloatOps F]

/-- The words as the reference hands them to the take: the extent added where a word is negative, as a column. -/
def column (p : S16384.Idx → BitVec 32) : S16384x1.Idx → BitVec 32 :=
  broadcastInDim S16384x1 ![0] bcast_S16384_S16384x1_0 (select (cmpi .slt p (broadcastInDim S16384 ![] bcast_S_S16384 (constantI S_ 32 0#32)))
    (addi p (broadcastInDim S16384 ![] bcast_S_S16384 (constantI S_ 32 1000000#32))) p)

/-- The test that the words of a column name rows. -/
def inside (c : S16384x1.Idx → BitVec 32) : S16384x1.Idx → BitVec 1 :=
  andi (cmpi .sge c (broadcastInDim S16384x1 ![] bcast_S_S16384x1 (constantI S_ 32 0#32)))
    (cmpi .sle c (broadcastInDim S16384x1 ![0, 1] bcast_S1x1_S16384x1_0_1 (broadcastInDim S1x1 ![1] bcast_S1_S1x1_1 (constantI S1 32 999999#32))))

/-- The rows taken at a column of words, a row of one constant where the test fails. -/
def taken (x : S1000000x16.Idx → F .f32) (c : S16384x1.Idx → BitVec 32) : S16384x16.Idx → F .f32 :=
  select (broadcastInDim S16384x16 ![0] bcast_S16384_S16384x16_0 (Host.reduce IntOp.andi (inside c) (constantI S_ 1 1#1) reducesTo_S16384x1_S16384_d1 h_S_))
    (Host.gather gather_S1000000x16_S16384x1_S16384x16_1_0_n_n_0_1_116 x c) (broadcastInDim S16384x16 ![] bcast_S_S16384x16 (constant S_ .f32 0x7FC00000#32))

theorem column_apply (p : S16384.Idx → BitVec 32) (hp : ∀ i, (p i).toNat < 1000000) (i : Fin 16384) (k : Fin 1) :
    column p (ix2 i k) = p (ix1 i) := by
  obtain rfl : k = 0 := Subsingleton.elim _ _
  unfold column
  rw [bcCol]
  exact wrap_of_lt _ _ (lt_trans (hp _) (by norm_num))

theorem inside_apply (p : S16384.Idx → BitVec 32) (hp : ∀ i, (p i).toNat < 1000000) (j : S16384x1.Idx) : inside (column p) j = 1#1 := by
  obtain ⟨i, k, rfl⟩ : ∃ i k, j = ix2 i k := ⟨_, _, eq_ix2 j⟩
  have h := hp (ix1 i)
  have e : (p (ix1 i)).toInt = ((p (ix1 i)).toNat : Int) := by
    rw [BitVec.toInt_eq_toNat_cond, if_pos (by omega)]
  show IntOp.andi (IntOp.cmpi .sge (column p (ix2 i k)) 0#32) (IntOp.cmpi .sle (column p (ix2 i k)) 999999#32) = 1#1
  rw [column_apply p hp, IntOp.andi_eq_one, IntOp.cmpi_sge, IntOp.cmpi_sle, e]
  have h0 : (0#32 : BitVec 32).toInt = 0 := by decide
  have h1 : (999999#32 : BitVec 32).toInt = 999999 := by decide
  rw [h0, h1]
  omega

theorem taken_apply (x : S1000000x16.Idx → F .f32) (p : S16384.Idx → BitVec 32) (hp : ∀ i, (p i).toNat < 1000000) (i : Fin 16384) (k : Fin 16) :
    taken x (column p) (ix2 i k) = x (ix2 ⟨(p (ix1 i)).toNat, hp _⟩ k) := by
  unfold taken
  have hm : broadcastInDim S16384x16 ![0] bcast_S16384_S16384x16_0
      (Host.reduce IntOp.andi (inside (column p)) (constantI S_ 1 1#1) reducesTo_S16384x1_S16384_d1 h_S_) (ix2 i k) = 1#1 := by
    rw [broadcastInDim_apply _ _ _ _ (ix1 i) (fun a => by match a with | ⟨0, _⟩ => rfl)]
    exact Host.reduce_andi_one _ _ _ _ _ rfl (inside_apply p hp)
  show Scalar.select _ _ _ = _
  rw [hm]
  show Host.gather gather_S1000000x16_S16384x1_S16384x16_1_0_n_n_0_1_116 x (column p) (ix2 i k) = _
  exact gather_row _ rfl rfl rfl rfl rfl x (column p) i k ⟨(p (ix1 i)).toNat, hp _⟩
    ((column_apply p hp i 0).trans (by rw [BitVec.ofNat_toNat, BitVec.setWidth_eq])) (by norm_num)

/-- The first words of the pairs, and the second ones. -/
def firsts (p : S16384x2.Idx → BitVec 32) : S16384.Idx → BitVec 32 :=
  shapeCast S16384 (extractStridedSlice S16384x1 ![0, 0] p slices_S16384x2_S16384x1_0_0) shapeCasts_S16384x1_S16384

@[inherit_doc firsts]
def seconds (p : S16384x2.Idx → BitVec 32) : S16384.Idx → BitVec 32 :=
  shapeCast S16384 (extractStridedSlice S16384x1 ![0, 1] p slices_S16384x2_S16384x1_0_1) shapeCasts_S16384x1_S16384

/-- A column of one lane as a vector. -/
theorem flat_apply (c : S16384x1.Idx → BitVec 32) (i : Fin 16384) : shapeCast S16384 c shapeCasts_S16384x1_S16384 (ix1 i) = c (ix2 i (0 : Fin 1)) :=
  shapeCast_apply c _ _ _ (by rw [Shape.rowMajor_val_two, Shape.rowMajor_val_one]; show i.val * 1 + 0 = i.val; omega)

theorem firsts_apply (p : S16384x2.Idx → BitVec 32) (i : Fin 16384) : firsts p (ix1 i) = p (ix2 i 0) := by
  refine (flat_apply _ i).trans (congrArg p (funext fun a => Fin.ext ?_))
  match a with
  | ⟨0, _⟩ => exact Nat.zero_add _
  | ⟨1, _⟩ => rfl

theorem seconds_apply (p : S16384x2.Idx → BitVec 32) (i : Fin 16384) : seconds p (ix1 i) = p (ix2 i 1) := by
  refine (flat_apply _ i).trans (congrArg p (funext fun a => Fin.ext ?_))
  match a with
  | ⟨0, _⟩ => exact Nat.zero_add _
  | ⟨1, _⟩ => rfl

theorem firsts_lt (p : S16384x2.Idx → BitVec 32) (hp : ∀ j, (p j).toNat < 1000000) (j : S16384.Idx) : (firsts p j).toNat < 1000000 := by
  obtain ⟨i, rfl⟩ : ∃ i, j = ix1 i := ⟨_, eq_ix1 j⟩
  rw [firsts_apply]; exact hp _

theorem seconds_lt (p : S16384x2.Idx → BitVec 32) (hp : ∀ j, (p j).toNat < 1000000) (j : S16384.Idx) : (seconds p j).toNat < 1000000 := by
  obtain ⟨i, rfl⟩ : ∃ i, j = ix1 i := ⟨_, eq_ix1 j⟩
  rw [seconds_apply]; exact hp _

/-- The row of the table at word `b` of pair `i`. -/
def row (x : S1000000x16.Idx → F .f32) (p : S16384x2.Idx → BitVec 32) (hp : ∀ j, (p j).toNat < 1000000) (i : Fin 16384) (b : Fin 2) (k : Fin 16) : F .f32 :=
  x (ix2 ⟨(p (ix2 i b)).toNat, hp _⟩ k)

theorem taken_firsts (x : S1000000x16.Idx → F .f32) (p : S16384x2.Idx → BitVec 32) (hp : ∀ j, (p j).toNat < 1000000) (i : Fin 16384) (k : Fin 16) :
    taken x (column (firsts p)) (ix2 i k) = row x p hp i 0 k := by
  rw [taken_apply _ _ (firsts_lt p hp)]
  unfold row
  simp only [firsts_apply]

theorem taken_seconds (x : S1000000x16.Idx → F .f32) (p : S16384x2.Idx → BitVec 32) (hp : ∀ j, (p j).toNat < 1000000) (i : Fin 16384) (k : Fin 16) :
    taken x (column (seconds p)) (ix2 i k) = row x p hp i 1 k := by
  rw [taken_apply _ _ (seconds_lt p hp)]
  unfold row
  simp only [seconds_apply]

variable (V : Valuation τ sig (Elt F))

/-- The table as an array, and the pairs. -/
abbrev table : S1000000x16.Idx → F .f32 := V (Proc.devRef .tc main_arg2)

@[inherit_doc table]
abbrev pairs : S16384x2.Idx → BitVec 32 := V (Proc.devRef .tc main_arg0)

/-- The first rows, and the second ones, as the reference's terms have them. -/
theorem v2_eq : (res_main_v2 V : S16384x16.Idx → F .f32) = taken (table V) (column (firsts (pairs V))) := rfl

theorem v5_eq : (res_main_v5 V : S16384x16.Idx → F .f32) = taken (table V) (column (seconds (pairs V))) := rfl

end Cert.Proof.RefRows

end
-- ==== Proof.RefValue.lean ====
/-
  WHAT THE REFERENCE RETURNS FOR A PAIR, over the extended reals: the loss `loss` at the pair's label and its two rows.
-/
module

public import proofs.«01_k».proof.Proof.RefRows
public import proofs.«01_k».proof.Proof.Math

@[expose] public section

noncomputable section

namespace Cert.Proof.RefValue

open Cert.ReferenceIdeal Cert.ReferenceIdeal.Gen Cert.ReferenceIdeal.Value

open Idealize.ShloMosaic Idealize.ShloMosaic.ValueIdx Idealize.SL.Sem

open Cert.Proof.RefRows

open scoped BigOperators

/-- One logistic term of the reference at `z`: `log (exp 0 + exp z)` with its guard against a difference that is not itself. -/
def soft (z : EReal) : EReal :=
  Scalar.select (FloatOps.cmpf (F := Ideal) (φ := .f32) .une (0 - z) (0 - z)) (0 + z) (max 0 z + Ideal.log1p (Ideal.exp (-max (0 - z) (-(0 - z)))))

/-- The guard never chooses: a value is equal to itself. -/
theorem soft_eq (z : EReal) : soft z = max 0 z + Ideal.log1p (Ideal.exp (-max (0 - z) (-(0 - z)))) := by
  have h : FloatOps.cmpf (F := Ideal) (φ := .f32) .une (0 - z) (0 - z) = 0#1 := by
    show Ideal.cmp .une (0 - z) (0 - z) = 0#1
    simp [Ideal.cmp]
  unfold soft
  rw [h]
  rfl

/-- The loss of a pair from its label, its distance, and the two sums of squares, as the reference forms it. -/
def loss (y d a b : EReal) : EReal :=
  y * soft (1 * (d - ((10 : ℝ) : EReal))) + (1 - y) * soft (((-1 : ℝ) : EReal) * (d - ((10 : ℝ) : EReal)))
    + Ideal.div (Ideal.div (((1 / 2 : ℝ) : EReal) * a) 1 + ((8 : ℝ) : EReal) * Ideal.log ((13176795 / 2097152 : ℝ) : EReal)
        + (Ideal.div (((1 / 2 : ℝ) : EReal) * b) 1 + ((8 : ℝ) : EReal) * Ideal.log ((13176795 / 2097152 : ℝ) : EReal))) ((999999 : ℝ) : EReal)

/-- The sum of each row of an array. -/
def rowSum (x : S16384x16.Idx → EReal) : S16384.Idx → EReal :=
  Host.reduceAdd (F := Ideal) (φ := .f32) x (constant S_ .f32 0x00000000#32) reducesTo_S16384x16_S16384_d1 h_S_

theorem reduces_rows : S16384x16.Reduces [1] S16384 := by decide

theorem rowSum_apply (x : S16384x16.Idx → EReal) (i : Fin 16384) : rowSum x (ix1 i) = ∑ k : Fin 16, x (ix2 i k) := by
  unfold rowSum
  rw [hostReduceAdd_apply, Ideal.hostReduceAdd_single _ reduces_rows]
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl

variable (V : Valuation τ sig (Elt Ideal))

/-- The labels, as an array. -/
abbrev labels : S16384.Idx → BitVec 32 := V (Proc.devRef .tc main_arg1)

/-- The result as an array. -/
def out : S16384.Idx → EReal := val2 V (Proc.devRef .tc main_v70)

/-- The first rows, and the second ones, as arrays of extended reals. -/
def us : S16384x16.Idx → EReal := taken (F := Ideal) (table V) (column (firsts (pairs V)))

@[inherit_doc us]
def vs : S16384x16.Idx → EReal := taken (F := Ideal) (table V) (column (seconds (pairs V)))

/-- The distances of the pairs. -/
def dists : S16384.Idx → EReal := fun j => Ideal.sqrt (rowSum (fun j => (us V j - vs V j) * (us V j - vs V j)) j)

/-- The named terms of the reference's result, as arrays of extended reals. -/
def t9 : S16384.Idx → EReal := res_main_v9 V

@[inherit_doc t9]
def t10 : S16384.Idx → EReal := res_main_v10 V

@[inherit_doc t9]
def t11 : S16384.Idx → EReal := res_main_v11 V

@[inherit_doc t9]
def t15 : S16384.Idx → EReal := res_main_v15 V

@[inherit_doc t9]
def t29 : S16384.Idx → EReal := res_main_v29 V

theorem us_eq : us V = (res_main_v2 V : S16384x16.Idx → EReal) := (v2_eq V).symm

theorem vs_eq : vs V = (res_main_v5 V : S16384x16.Idx → EReal) := (v5_eq V).symm

/-- The differences of the rows. -/
def t6 : S16384x16.Idx → EReal := res_main_v6 V

theorem t6_eq : t6 V = fun j => us V j - vs V j := by
  rw [us_eq, vs_eq]
  rfl

theorem t9_eq : t9 V = dists V := by
  have h : t9 V = Host.sqrt (F := Ideal) (φ := .f32) (rowSum (mulf (F := Ideal) (φ := .f32) (t6 V) (t6 V))) := rfl
  have e : mulf (F := Ideal) (φ := .f32) (t6 V) (t6 V) = fun j => (us V j - vs V j) * (us V j - vs V j) := by
    rw [t6_eq]
    rfl
  rw [h, e]
  generalize rowSum_def : rowSum (fun j => (us V j - vs V j) * (us V j - vs V j)) = r
  unfold dists
  rw [rowSum_def]
  rfl

theorem t10_apply (j : S16384.Idx) : t10 V j = (((labels V j).toInt : ℝ) : EReal) := rfl

theorem t11_apply (j : S16384.Idx) : t11 V j = 0 := Ideal.ofBits_zero_f32

theorem t15_apply (j : S16384.Idx) : t15 V j = 1 * (dists V j - ((10 : ℝ) : EReal)) := by
  rw [← Math.bits_ten, ← Ideal.ofBits_one_f32, ← t9_eq]
  rfl

theorem t29_apply (j : S16384.Idx) : t29 V j = ((-1 : ℝ) : EReal) * (dists V j - ((10 : ℝ) : EReal)) := by
  rw [← Math.bits_ten, ← Math.bits_neg_one, ← t9_eq]
  rfl

/-- One logistic term of the reference, as an array. -/
def softs (o z : S16384.Idx → EReal) : S16384.Idx → EReal :=
  select (cmpf (F := Ideal) (φ := .f32) .une (subf (F := Ideal) (φ := .f32) o z) (subf (F := Ideal) (φ := .f32) o z)) (addf (F := Ideal) (φ := .f32) o z)
    (addf (F := Ideal) (φ := .f32) (maximumf (F := Ideal) (φ := .f32) o z)
      (Host.log1p (F := Ideal) (φ := .f32) (Host.exp (Host.negf (Host.absf (subf (F := Ideal) (φ := .f32) o z))))))

theorem softs_apply (o z : S16384.Idx → EReal) (j : S16384.Idx) (ho : o j = 0) : softs o z j = soft (z j) := by
  unfold soft
  rw [← ho]
  rfl

/-- Half a sum of squares with the constant of the density, as an array. -/
def lat (x : S16384x16.Idx → EReal) : S16384.Idx → EReal :=
  addf (F := Ideal) (φ := .f32) (Host.divf (mulf (broadcastInDim S16384 ![] bcast_S_S16384 (constant S_ .f32 0x3F000000#32)) (rowSum fun j => x j * x j))
      (broadcastInDim S16384 ![] bcast_S_S16384 (constant S_ .f32 0x3F800000#32)))
    (broadcastInDim S16384 ![] bcast_S_S16384 (id (mulf (constant S_ .f32 0x41000000#32) (Host.log (constant S_ .f32 0x40C90FDB#32)))))

theorem lat_apply (x : S16384x16.Idx → EReal) (j : S16384.Idx) :
    lat x j = Ideal.div (((1 / 2 : ℝ) : EReal) * rowSum (fun j => x j * x j) j) 1 + ((8 : ℝ) : EReal) * Ideal.log ((13176795 / 2097152 : ℝ) : EReal) := by
  rw [← Math.bits_half, ← Math.bits_eight, ← Math.bits_two_pi, ← Ideal.ofBits_one_f32]
  rfl

/-- The result as the reference's last lines form it. -/
theorem out_eq : out V = addf (F := Ideal) (φ := .f32) (addf (F := Ideal) (φ := .f32) (mulf (F := Ideal) (φ := .f32) (t10 V) (softs (t11 V) (t15 V)))
      (mulf (F := Ideal) (φ := .f32) (subf (broadcastInDim S16384 ![] bcast_S_S16384 (constant S_ .f32 0x3F800000#32)) (t10 V)) (softs (t11 V) (t29 V))))
    (Host.divf (addf (F := Ideal) (φ := .f32) (lat (us V)) (lat (vs V))) (broadcastInDim S16384 ![] bcast_S_S16384 (constant S_ .f32 0x497423F0#32))) := by
  rw [us_eq, vs_eq]
  exact val2_main_v70 V

/-- The result at a pair, from the arrays of rows. -/
theorem out_rows (j : S16384.Idx) :
    out V j = loss (((labels V j).toInt : ℝ) : EReal) (dists V j) (rowSum (fun j => us V j * us V j) j) (rowSum (fun j => vs V j * vs V j) j) := by
  have h : out V j = t10 V j * softs (t11 V) (t15 V) j
      + (Ideal.ofBits .f32 0x3F800000#32 - t10 V j) * softs (t11 V) (t29 V) j
      + Ideal.div (lat (us V) j + lat (vs V) j) (Ideal.ofBits .f32 0x497423F0#32) := congrFun (out_eq V) j
  rw [h, t10_apply, softs_apply _ _ _ (t11_apply V j), softs_apply _ _ _ (t11_apply V j), t15_apply, t29_apply, lat_apply, lat_apply,
    Math.bits_others, Ideal.ofBits_one_f32]
  rfl

/-- The result at a pair, from its two rows. -/
theorem out_apply (hp : ∀ j, (pairs V j).toNat < 1000000) (i : Fin 16384) :
    out V (ix1 i) = loss (((labels V (ix1 i)).toInt : ℝ) : EReal)
      (Ideal.sqrt (∑ k, (row (F := Ideal) (table V) (pairs V) hp i 0 k - row (F := Ideal) (table V) (pairs V) hp i 1 k)
        * (row (F := Ideal) (table V) (pairs V) hp i 0 k - row (F := Ideal) (table V) (pairs V) hp i 1 k)))
      (∑ k, row (F := Ideal) (table V) (pairs V) hp i 0 k * row (F := Ideal) (table V) (pairs V) hp i 0 k)
      (∑ k, row (F := Ideal) (table V) (pairs V) hp i 1 k * row (F := Ideal) (table V) (pairs V) hp i 1 k) := by
  rw [out_rows]
  simp only [dists, us, vs, rowSum_apply, taken_firsts _ _ hp, taken_seconds _ _ hp]

end Cert.Proof.RefValue

end
-- ==== Proof.Algebraic.lean ====
/-
  THE KERNEL'S RESULT IS THE REFERENCE'S, over the extended reals: both runs end with the same loss of every pair.
-/
module

public import proofs.«01_k».proof.Defs
public import proofs.«01_k».proof.Proof.KernelValue
public import proofs.«01_k».proof.Proof.RefValue

@[expose] public section

noncomputable section

namespace Cert.Proof.Algebraic

open Idealize.ShloMosaic Idealize.SL.Sem

open scoped BigOperators

/-- The two forms of a pair's loss agree, at the pair's rows `u` and `v` and a real label. -/
theorem loss_eq (y : ℝ) (u v : Fin 16 → EReal) :
    RefValue.loss (y : EReal) (Ideal.sqrt (∑ k, (u k - v k) * (u k - v k))) (∑ k, u k * u k) (∑ k, v k * v k)
      = KernelValue.loss (y : EReal) (∑ k, (u k - v k) * (u k - v k)) (∑ k, u k * u k + ∑ k, v k * v k) := by
  unfold RefValue.loss KernelValue.loss
  rw [RefValue.soft_eq, RefValue.soft_eq, Math.log_two_pi, ← Math.latent _ _ (Math.squares_nonneg u) (Math.squares_nonneg v),
    ← Math.logistic y _ (Math.sqrt_nonneg _ (Math.squares_nonneg fun k => u k - v k))]

/-- The reference's result as an array is the kernel's, from equal arguments. -/
theorem out_eq_res (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (h0 : RefRows.pairs V = KernelValue.pairs m d) (h1 : RefValue.labels V = KernelValue.labels m d) (h2 : RefRows.table V = KernelValue.table m d)
    (hp : ∀ j, (KernelValue.pairs m d j).toNat < 1000000) : RefValue.out V = RunIdeal.res (F := Ideal) m d := by
  funext j
  obtain ⟨i, rfl⟩ : ∃ i : Fin 16384, j = ValueIdx.ix1 i := ⟨_, ValueIdx.eq_ix1 j⟩
  have hp' : ∀ j, (RefRows.pairs V j).toNat < 1000000 := by rw [h0]; exact hp
  have hr : ∀ b, RefRows.row (F := Ideal) (RefRows.table V) (RefRows.pairs V) hp' i b = KernelValue.row m d hp i b := fun b => by
    funext k
    unfold RefRows.row KernelValue.row
    simp only [h0, h2]
  rw [KernelValue.res_apply m d hp, ← loss_eq, RefValue.out_apply V hp', h1, hr 0, hr 1]

theorem algebraic [Cert.Pre_pairs_in_rows.Facts] : Cert.algebraic_KernelIdeal_ReferenceIdeal := by
  intro m g m' g' hpre hm
  have hp : ∀ d j, (KernelValue.pairs m d j).toNat < 1000000 := fun d j => Range.words_lt _ _ _ (hpre d) j
  refine ⟨RunIdeal.res (F := Ideal) m, ?_, ?_⟩
  · exact (θ_run Cert.KernelIdeal.defs _ _).mono (fun _ h c => ⟨(h.1 c).2.2.2, (h.1 c).1, (h.1 c).2.1, (h.1 c).2.2.1⟩)
      (RunIdeal.run_main (F := Ideal) m g (RunIdeal.words_lt m hpre))
  · exact (θ_run Cert.ReferenceIdeal.defs _ _).mono (fun _ h c => ⟨(h c).1.trans ((Cert.ReferenceIdeal.Value.val2_main_v70 _).symm.trans
        (out_eq_res m c _ (hm c).1 (hm c).2.1 (hm c).2.2 (hp c))), (h c).2⟩)
      (Cert.ReferenceIdeal.Value.run (F := Ideal) m' g')

/-- The reference's frame: its run with the result dropped; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof.Algebraic

end
-- ==== Proof.lean ====
/-
  THE CLAIMS, PUT TOGETHER: the frames of the kernel (`Run.Frame`), of its ideal form (`RunIdeal.Frame`) and of the reference; that the
  ideal form names two constants and changes nothing else; and that the ideal kernel's result is the reference's (`Algebraic`).
-/
module

public import proofs.«01_k».proof.Defs
public import proofs.«01_k».proof.Proof.Gen.Pre_pairs_in_rows
public import proofs.«01_k».proof.Proof.Run.Frame
public import proofs.«01_k».proof.Proof.RunIdeal.Frame
public import proofs.«01_k».proof.Proof.Algebraic

@[expose] public section

noncomputable section

namespace Cert.Proof

open Idealize.ShloMosaic

/-- The two constants the ideal form names. -/
theorem preserves : Cert.preserves_Kernel_KernelIdeal :=
  ⟨IdealRules.named_const.statement Cert.KernelIdeal.κ "two_c" .f32 0x41EB3F8E#32 _ rfl,
    IdealRules.named_const.statement Cert.KernelIdeal.κ "scale" .f32 0x358637C6#32 _ rfl⟩

theorem claim : Cert.Claim :=
  ⟨Cert.Kernel.Gen.facts, Cert.KernelIdeal.Gen.facts, Cert.ReferenceIdeal.Gen.facts, Cert.Pre_pairs_in_rows.Gen.facts,
    Run.frame, RunIdeal.frame, Algebraic.frame_reference, fun m g _ => Algebraic.frame_reference m g trivial, preserves, Algebraic.algebraic⟩

end Cert.Proof

end
